-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .bf16 0x3FB9#16 (((Real.log 2)⁻¹ : ℝ) : EReal)
  ∧ IdealRules.named_const.Statement Cert.KernelIdeal.κ "two_log2e" .bf16 0x4039#16 ((2 * (Real.log 2)⁻¹ : ℝ) : EReal)
  ∧ IdealRules.named_const.Statement Cert.KernelIdeal.κ "neg_inv_n" .f32 0xB9638E39#32 ((-1 / 4608 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x384x384 : Shape := ⟨3, ![2, 384, 384]⟩
abbrev S2x19x384x384 : Shape := ⟨4, ![2, 19, 384, 384]⟩
abbrev S2x256x48x48 : Shape := ⟨4, ![2, 256, 48, 48]⟩
abbrev S_ : Shape := ⟨0, ![]⟩

class Facts : Prop where
  bcast_S_S2x384x384 : S_.BroadcastsInDim S2x384x384 (![] : Fin 0 → Fin S2x384x384.rank)
  reducesTo_S2x384x384_S_d0_1_2 : S2x384x384.ReducesTo [0, 1, 2] S_
  h_S_ : 0 < S_.numel
  bcast_S_S2x256x48x48 : S_.BroadcastsInDim S2x256x48x48 (![] : Fin 0 → Fin S2x256x48x48.rank)
  reducesTo_S2x256x48x48_S_d0_1_2_3 : S2x256x48x48.ReducesTo [0, 1, 2, 3] S_

variable [Facts]

def fn {F : FTy → Type} [FloatOps F] (main_arg0 : IVec S2x384x384 32) (main_arg1 : FVec F S2x19x384x384 .f32) (main_arg2 : FVec F S2x256x48x48 .f32) (main_arg3 : IVec S_ 32) (main_arg4 : IVec S_ 32) : IVec S_ 1 :=
  let main_c : IVec S_ 32 := constantI S_ 32 0#32
  let main_v0 : IVec S2x384x384 32 := broadcastInDim S2x384x384 ![] bcast_S_S2x384x384 main_c
  let main_v1 : IVec S2x384x384 1 := cmpi .sge main_arg0 main_v0
  let main_c_0 : IVec S_ 32 := constantI S_ 32 19#32
  let main_v2 : IVec S2x384x384 32 := broadcastInDim S2x384x384 ![] bcast_S_S2x384x384 main_c_0
  let main_v3 : IVec S2x384x384 1 := cmpi .slt main_arg0 main_v2
  let main_v4 : IVec S2x384x384 1 := andi main_v1 main_v3
  let main_c_1 : IVec S_ 1 := constantI S_ 1 1#1
  let main_v5 : IVec S_ 1 := (fun x v => Host.reduce IntOp.andi x v reducesTo_S2x384x384_S_d0_1_2 h_S_) main_v4 main_c_1
  let main_v6 : FVec F S2x256x48x48 .f32 := Host.absf main_arg2
  let main_cst : FVec F S_ .f32 := constant S_ .f32 0x7F800000#32
  let main_v7 : FVec F S2x256x48x48 .f32 := broadcastInDim S2x256x48x48 ![] bcast_S_S2x256x48x48 main_cst
  let main_v8 : IVec S2x256x48x48 1 := cmpf .olt main_v6 main_v7
  let main_c_2 : IVec S_ 1 := constantI S_ 1 1#1
  let main_v9 : IVec S_ 1 := (fun x v => Host.reduce IntOp.andi x v reducesTo_S2x256x48x48_S_d0_1_2_3 h_S_) main_v8 main_c_2
  let main_v10 : IVec S_ 1 := andi main_v5 main_v9
  main_v10
-- ==== Kernel.lean ====
abbrev S2x384x384 : Shape := ⟨3, ![2, 384, 384]⟩
abbrev S2x19x384x384 : Shape := ⟨4, ![2, 19, 384, 384]⟩
abbrev S2x256x48x48 : Shape := ⟨4, ![2, 256, 48, 48]⟩
abbrev S_ : Shape := ⟨0, ![]⟩
abbrev S2x48x48 : Shape := ⟨3, ![2, 48, 48]⟩
abbrev S4608 : Shape := ⟨1, ![4608]⟩
abbrev S4608x256 : Shape := ⟨2, ![4608, 256]⟩
abbrev S256x4608 : Shape := ⟨2, ![256, 4608]⟩
abbrev S4608x1 : Shape := ⟨2, ![4608, 1]⟩
abbrev S128 : Shape := ⟨1, ![128]⟩
abbrev S1x128 : Shape := ⟨2, ![1, 128]⟩
abbrev S4608x128 : Shape := ⟨2, ![4608, 128]⟩
abbrev S1x1 : Shape := ⟨2, ![1, 1]⟩
abbrev S256x256 : Shape := ⟨2, ![256, 256]⟩
abbrev S256x1 : Shape := ⟨2, ![256, 1]⟩
abbrev S2 : Shape := ⟨1, ![2]⟩
abbrev S1 : Shape := ⟨1, ![1]⟩
abbrev S256x128 : Shape := ⟨2, ![256, 128]⟩
abbrev S8x256 : Shape := ⟨2, ![8, 256]⟩
abbrev S256x512 : Shape := ⟨2, ![256, 512]⟩
abbrev S8x512 : Shape := ⟨2, ![8, 512]⟩
abbrev S1x512 : Shape := ⟨2, ![1, 512]⟩
abbrev S256 : Shape := ⟨1, ![256]⟩
abbrev S256x128x1 : Shape := ⟨3, ![256, 128, 1]⟩

abbrev nBuf : Space → Nat
  | .hbm => 19
  | .vmem => 9
  | .smem => 0
  | _ => 0

abbrev bufTy : (tb : Table) → Fin (tcTables nBuf tb) → BufTy
  | .hbm, ⟨0, _⟩ => ⟨S2x384x384, .i32⟩
  | .hbm, ⟨1, _⟩ => ⟨S2x19x384x384, .f32⟩
  | .hbm, ⟨2, _⟩ => ⟨S2x256x48x48, .f32⟩
  | .hbm, ⟨3, _⟩ => ⟨S_, .i32⟩
  | .hbm, ⟨4, _⟩ => ⟨S_, .i32⟩
  | .hbm, ⟨5, _⟩ => ⟨S2x48x48, .i32⟩
  | .hbm, ⟨6, _⟩ => ⟨S4608, .i32⟩
  | .hbm, ⟨7, _⟩ => ⟨S4608x256, .f32⟩
  | .hbm, ⟨8, _⟩ => ⟨S4608x256, .bf16⟩
  | .hbm, ⟨9, _⟩ => ⟨S256x4608, .bf16⟩
  | .hbm, ⟨10, _⟩ => ⟨S4608x1, .i32⟩
  | .hbm, ⟨11, _⟩ => ⟨S128, .i32⟩
  | .hbm, ⟨12, _⟩ => ⟨S1x128, .i32⟩
  | .hbm, ⟨13, _⟩ => ⟨S4608x128, .i32⟩
  | .hbm, ⟨14, _⟩ => ⟨S4608x128, .i32⟩
  | .hbm, ⟨15, _⟩ => ⟨S4608x128, .i1⟩
  | .hbm, ⟨16, _⟩ => ⟨S4608x128, .bf16⟩
  | .hbm, ⟨17, _⟩ => ⟨S4608x1, .i32⟩
  | .hbm, ⟨18, _⟩ => ⟨S1x1, .f32⟩
  | .local _ .vmem, ⟨0, _⟩ => ⟨S256x256, .bf16⟩
  | .local _ .vmem, ⟨1, _⟩ => ⟨S256x256, .bf16⟩
  | .local _ .vmem, ⟨2, _⟩ => ⟨S256x1, .i32⟩
  | .local _ .vmem, ⟨3, _⟩ => ⟨S256x1, .i32⟩
  | .local _ .vmem, ⟨4, _⟩ => ⟨S1x1, .f32⟩
  | .local _ .vmem, ⟨5, _⟩ => ⟨S256x4608, .bf16⟩
  | .local _ .vmem, ⟨6, _⟩ => ⟨S4608x128, .bf16⟩
  | .local _ .vmem, ⟨7, _⟩ => ⟨S256x4608, .bf16⟩
  | .local _ .vmem, ⟨8, _⟩ => ⟨S1x128, .f32⟩
  | _, _ => ⟨S2x384x384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![18], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let c0_78 : Index := 0#32
  let arg0 : BitVec 32 := BitVec.ofNat 32 (i 0).val
  let c256_i32 : BitVec 32 := 256#32
  let v0 : BitVec 32 := Scalar.muli arg0 c256_i32
  let v1 : BitVec 32 := v0
  let v421 : Index := Scalar.indexCast v1
  ![0, v421.toNat]
def k0_cond2 (i : grid0.Coords) : BitVec 1 :=
  let arg0 : BitVec 32 := BitVec.ofNat 32 (i 0).val
  let c17_i32 : BitVec 32 := 17#32
  let v458 : BitVec 1 := Scalar.cmpi .eq arg0 c17_i32
  let v459 : BitVec 32 := Scalar.extui v458
  let c0_i32_95 : BitVec 32 := 0#32
  let v460 : BitVec 1 := Scalar.cmpi .ne v459 c0_i32_95
  v460

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "log2e" => some (((Real.log 2)⁻¹ : ℝ) : EReal)
  | "neg_inv_n" => some ((-1 / 4608 : ℝ) : EReal)
  | "two_log2e" => some ((2 * (Real.log 2)⁻¹ : ℝ) : EReal)
  | _ => none
-- ==== ReferenceIdeal.lean ====
abbrev S2x384x384 : Shape := ⟨3, ![2, 384, 384]⟩
abbrev S2x19x384x384 : Shape := ⟨4, ![2, 19, 384, 384]⟩
abbrev S2x256x48x48 : Shape := ⟨4, ![2, 256, 48, 48]⟩
abbrev S_ : Shape := ⟨0, ![]⟩
abbrev S48 : Shape := ⟨1, ![48]⟩
abbrev S48x1 : Shape := ⟨2, ![48, 1]⟩
abbrev S1x48 : Shape := ⟨2, ![1, 48]⟩
abbrev S48x48 : Shape := ⟨2, ![48, 48]⟩
abbrev S48x48x1 : Shape := ⟨3, ![48, 48, 1]⟩
abbrev S48x48x2 : Shape := ⟨3, ![48, 48, 2]⟩
abbrev S2x48x48 : Shape := ⟨3, ![2, 48, 48]⟩
abbrev S4608 : Shape := ⟨1, ![4608]⟩
abbrev S4608x256 : Shape := ⟨2, ![4608, 256]⟩
abbrev S4608x1 : Shape := ⟨2, ![4608, 1]⟩
abbrev S1x4608 : Shape := ⟨2, ![1, 4608]⟩
abbrev S4608x4608 : Shape := ⟨2, ![4608, 4608]⟩
abbrev S256x4608 : Shape := ⟨2, ![256, 4608]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S2x384x384, .i32⟩
  | .hbm, ⟨1, _⟩ => ⟨S2x19x384x384, .f32⟩
  | .hbm, ⟨2, _⟩ => ⟨S2x256x48x48, .f32⟩
  | .hbm, ⟨3, _⟩ => ⟨S_, .i32⟩
  | .hbm, ⟨4, _⟩ => ⟨S_, .i32⟩
  | .hbm, ⟨5, _⟩ => ⟨S48, .i32⟩
  | .hbm, ⟨6, _⟩ => ⟨S_, .i32⟩
  | .hbm, ⟨7, _⟩ => ⟨S48, .i32⟩
  | .hbm, ⟨8, _⟩ => ⟨S48, .i32⟩
  | .hbm, ⟨9, _⟩ => ⟨S_, .i32⟩
  | .hbm, ⟨10, _⟩ => ⟨S_, .i32⟩
  | .hbm, ⟨11, _⟩ => ⟨S48, .i32⟩
  | .hbm, ⟨12, _⟩ => ⟨S48, .i32⟩
  | .hbm, ⟨13, _⟩ => ⟨S48, .i32⟩
  | .hbm, ⟨14, _⟩ => ⟨S_, .i32⟩
  | .hbm, ⟨15, _⟩ => ⟨S48, .i32⟩
  | .hbm, ⟨16, _⟩ => ⟨S48, .i1⟩
  | .hbm, ⟨17, _⟩ => ⟨S48, .i32⟩
  | .hbm, ⟨18, _⟩ => ⟨S48, .i32⟩
  | .hbm, ⟨19, _⟩ => ⟨S_, .i32⟩
  | .hbm, ⟨20, _⟩ => ⟨S48, .i32⟩
  | .hbm, ⟨21, _⟩ => ⟨S48, .i1⟩
  | .hbm, ⟨22, _⟩ => ⟨S48, .i1⟩
  | .hbm, ⟨23, _⟩ => ⟨S_, .i32⟩
  | .hbm, ⟨24, _⟩ => ⟨S48, .i32⟩
  | .hbm, ⟨25, _⟩ => ⟨S48, .i32⟩
  | .hbm, ⟨26, _⟩ => ⟨S48, .i32⟩
  | .hbm, ⟨27, _⟩ => ⟨S48, .i32⟩
  | .hbm, ⟨28, _⟩ => ⟨S_, .i32⟩
  | .hbm, ⟨29, _⟩ => ⟨S48, .i32⟩
  | .hbm, ⟨30, _⟩ => ⟨S48, .i32⟩
  | .hbm, ⟨31, _⟩ => ⟨S_, .i32⟩
  | .hbm, ⟨32, _⟩ => ⟨S_, .i32⟩
  | .hbm, ⟨33, _⟩ => ⟨S48, .i32⟩
  | .hbm, ⟨34, _⟩ => ⟨S48, .i32⟩
  | .hbm, ⟨35, _⟩ => ⟨S48, .i32⟩
  | .hbm, ⟨36, _⟩ => ⟨S_, .i32⟩
  | .hbm, ⟨37, _⟩ => ⟨S48, .i32⟩
  | .hbm, ⟨38, _⟩ => ⟨S48, .i1⟩
  | .hbm, ⟨39, _⟩ => ⟨S48, .i32⟩
  | .hbm, ⟨40, _⟩ => ⟨S48, .i32⟩
  | .hbm, ⟨41, _⟩ => ⟨S_, .i32⟩
  | .hbm, ⟨42, _⟩ => ⟨S48, .i32⟩
  | .hbm, ⟨43, _⟩ => ⟨S48, .i1⟩
  | .hbm, ⟨44, _⟩ => ⟨S48, .i1⟩
  | .hbm, ⟨45, _⟩ => ⟨S_, .i32⟩
  | .hbm, ⟨46, _⟩ => ⟨S48, .i32⟩
  | .hbm, ⟨47, _⟩ => ⟨S48, .i32⟩
  | .hbm, ⟨48, _⟩ => ⟨S48, .i32⟩
  | .hbm, ⟨49, _⟩ => ⟨S48x1, .i32⟩
  | .hbm, ⟨50, _⟩ => ⟨S1x48, .i32⟩
  | .hbm, ⟨51, _⟩ => ⟨S_, .i32⟩
  | .hbm, ⟨52, _⟩ => ⟨S48x1, .i32⟩
  | .hbm, ⟨53, _⟩ => ⟨S48x1, .i1⟩
  | .hbm, ⟨54, _⟩ => ⟨S_, .i32⟩
  | .hbm, ⟨55, _⟩ => ⟨S48x1, .i32⟩
  | .hbm, ⟨56, _⟩ => ⟨S48x1, .i32⟩
  | .hbm, ⟨57, _⟩ => ⟨S48x1, .i32⟩
  | .hbm, ⟨58, _⟩ => ⟨S_, .i32⟩
  | .hbm, ⟨59, _⟩ => ⟨S1x48, .i32⟩
  | .hbm, ⟨60, _⟩ => ⟨S1x48, .i1⟩
  | .hbm, ⟨61, _⟩ => ⟨S_, .i32⟩
  | .hbm, ⟨62, _⟩ => ⟨S1x48, .i32⟩
  | .hbm, ⟨63, _⟩ => ⟨S1x48, .i32⟩
  | .hbm, ⟨64, _⟩ => ⟨S1x48, .i32⟩
  | .hbm, ⟨65, _⟩ => ⟨S48x48, .i32⟩
  | .hbm, ⟨66, _⟩ => ⟨S48x48, .i32⟩
  | .hbm, ⟨67, _⟩ => ⟨S48x48x1, .i32⟩
  | .hbm, ⟨68, _⟩ => ⟨S48x48x1, .i32⟩
  | .hbm, ⟨69, _⟩ => ⟨S48x48x2, .i32⟩
  | .hbm, ⟨70, _⟩ => ⟨S2x48x48, .i32⟩
  | .hbm, ⟨71, _⟩ => ⟨S4608, .i32⟩
  | .hbm, ⟨72, _⟩ => ⟨S4608x256, .f32⟩
  | .hbm, ⟨73, _⟩ => ⟨S4608x256, .f32⟩
  | .hbm, ⟨74, _⟩ => ⟨S_, .f32⟩
  | .hbm, ⟨75, _⟩ => ⟨S4608, .f32⟩
  | .hbm, ⟨76, _⟩ => ⟨S4608x1, .f32⟩
  | .hbm, ⟨77, _⟩ => ⟨S1x4608, .f32⟩
  | .hbm, ⟨78, _⟩ => ⟨S4608x4608, .f32⟩
  | .hbm, ⟨79, _⟩ => ⟨S4608x4608, .f32⟩
  | .hbm, ⟨80, _⟩ => ⟨S4608x4608, .f32⟩
  | .hbm, ⟨81, _⟩ => ⟨S256x4608, .f32⟩
  | .hbm, ⟨82, _⟩ => ⟨S4608x4608, .f32⟩
  | .hbm, ⟨83, _⟩ => ⟨S_, .f32⟩
  | .hbm, ⟨84, _⟩ => ⟨S4608x4608, .f32⟩
  | .hbm, ⟨85, _⟩ => ⟨S4608x4608, .f32⟩
  | .hbm, ⟨86, _⟩ => ⟨S4608x4608, .f32⟩
  | .hbm, ⟨87, _⟩ => ⟨S_, .f32⟩
  | .hbm, ⟨88, _⟩ => ⟨S4608x4608, .f32⟩
  | .hbm, ⟨89, _⟩ => ⟨S4608x4608, .f32⟩
  | .hbm, ⟨90, _⟩ => ⟨S4608x4608, .f32⟩
  | .hbm, ⟨91, _⟩ => ⟨S4608x4608, .f32⟩
  | .hbm, ⟨92, _⟩ => ⟨S4608x4608, .i32⟩
  | .hbm, ⟨93, _⟩ => ⟨S4608x4608, .i32⟩
  | .hbm, ⟨94, _⟩ => ⟨S_, .i32⟩
  | .hbm, ⟨95, _⟩ => ⟨S4608x4608, .i32⟩
  | .hbm, ⟨96, _⟩ => ⟨S4608x4608, .i32⟩
  | .hbm, ⟨97, _⟩ => ⟨S4608x4608, .i1⟩
  | .hbm, ⟨98, _⟩ => ⟨S4608x4608, .f32⟩
  | .hbm, ⟨99, _⟩ => ⟨S_, .f32⟩
  | .hbm, ⟨100, _⟩ => ⟨S4608x4608, .f32⟩
  | .hbm, ⟨101, _⟩ => ⟨S4608x4608, .f32⟩
  | .hbm, ⟨102, _⟩ => ⟨S4608x4608, .f32⟩
  | .hbm, ⟨103, _⟩ => ⟨S4608x1, .i32⟩
  | .hbm, ⟨104, _⟩ => ⟨S1x4608, .i32⟩
  | .hbm, ⟨105, _⟩ => ⟨S4608x4608, .i32⟩
  | .hbm, ⟨106, _⟩ => ⟨S4608x4608, .i32⟩
  | .hbm, ⟨107, _⟩ => ⟨S4608x4608, .i1⟩
  | .hbm, ⟨108, _⟩ => ⟨S4608x4608, .f32⟩
  | .hbm, ⟨109, _⟩ => ⟨S4608x4608, .f32⟩
  | .hbm, ⟨110, _⟩ => ⟨S_, .f32⟩
  | .hbm, ⟨111, _⟩ => ⟨S4608, .f32⟩
  | .hbm, ⟨112, _⟩ => ⟨S_, .f32⟩
  | .hbm, ⟨113, _⟩ => ⟨S4608, .f32⟩
  | .hbm, ⟨114, _⟩ => ⟨S4608, .f32⟩
  | .hbm, ⟨115, _⟩ => ⟨S4608, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S1x1, .f32⟩
  | _, _ => ⟨S2x384x384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_v5 : Ref sig .tc := ⟨.hbm, 29, rfl⟩
abbrev main_v6 : Ref sig .tc := ⟨.hbm, 30, rfl⟩
abbrev main_c_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_c_3 : Ref sig .tc := ⟨.hbm, 51, rfl⟩
abbrev main_v10 : Ref sig .tc := ⟨.hbm, 52, rfl⟩
abbrev main_v11 : Ref sig .tc := ⟨.hbm, 53, rfl⟩
abbrev main_c_4 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_c_5 : Ref sig .tc := ⟨.hbm, 58, rfl⟩
abbrev main_v15 : Ref sig .tc := ⟨.hbm, 59, rfl⟩
abbrev main_v16 : Ref sig .tc := ⟨.hbm, 60, rfl⟩
abbrev main_c_6 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_7 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_8 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_c_9 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_10 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_11 : Ref sig .tc := ⟨.hbm, 110, rfl⟩
abbrev main_v60 : Ref sig .tc := ⟨.hbm, 111, rfl⟩
abbrev main_cst_12 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_13 : Ref sig .tc := ⟨.hbm, 116, rfl⟩
abbrev main_v64 : Ref sig .tc := ⟨.hbm, 117, rfl⟩
abbrev main_cst_14 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩

abbrev nD : Nat := 1
abbrev τ : Topo := Topo.v7x

variable {F : FTy → Type} [FloatOps F]
-- ==== Proof.Strip.lean ====
/- The strip of kernel values one grid point builds. A grid point fills a scratch strip of 256 rows and 4608 columns by
   36 stores of 128 columns each, overwrites the 256 columns under its own rows so that their diagonal is zero, and then
   reads the strip back whole. This module names the mathematics of one entry (`entry`), of the strip before the diagonal
   is cleared (`tile`) and after (`strip`), and proves that the stores, the overwrite and the read give `strip`. -/
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Strip

open Cert.KernelIdeal Cert.KernelIdeal.Gen

/-- The constant named `log2e` is the real `1 / log 2`. -/
theorem named_log2e : Named.named (F := Ideal) κ "log2e" (φ := .bf16) 0x3FB9#16 = (((Real.log 2)⁻¹ : ℝ) : EReal) :=
  IdealRules.named_const.ideal_named_scalar _ _ _ _ rfl

/-- The constant named `two_log2e` is the real `2 / log 2`. -/
theorem named_two_log2e : Named.named (F := Ideal) κ "two_log2e" (φ := .bf16) 0x4039#16 = ((2 * (Real.log 2)⁻¹ : ℝ) : EReal) :=
  IdealRules.named_const.ideal_named_scalar _ _ _ _ rfl

/-- The constant named `neg_inv_n` is the real `-1 / 4608`. -/
theorem named_neg_inv_n : Named.named (F := Ideal) κ "neg_inv_n" (φ := .f32) 0xB9638E39#32 = ((-1 / 4608 : ℝ) : EReal) :=
  IdealRules.named_const.ideal_named_scalar _ _ _ _ rfl

/-- One entry of the strip: two raised to `2 L (a · b) - L |a|² - L |b|²` with `L = 1 / log 2`, for a row `a` of the
    point's block and a column `b` of the transposed features, added in the order the kernel adds. -/
def entry (a b : Fin 256 → EReal) : EReal :=
  FloatOps.exp2 (F := Ideal) (φ := .f32)
    (∑ k, a k * ((2 * (Real.log 2)⁻¹ : ℝ) : EReal) * b k - ∑ k, a k * a k * (((Real.log 2)⁻¹ : ℝ) : EReal)
      - ∑ k, (((Real.log 2)⁻¹ : ℝ) : EReal) * (b k * b k))

/-- The strip before its diagonal is cleared: row `y 0` of the block against column `y 1` of the features. -/
def tile (x : FVec Ideal S256x256 .bf16) (xt : FVec Ideal S256x4608 .bf16) : FVec Ideal S256x4608 .bf16 := fun y =>
  entry (fun k => x (ix2 (y 0) k)) (fun k => xt (ix2 k (y 1)))

/-- The strip as point `p` of the grid uses it: the entry whose column is the row's own position is zero. -/
def strip (x : FVec Ideal S256x256 .bf16) (xt : FVec Ideal S256x4608 .bf16) (p : ℕ) : FVec Ideal S256x4608 .bf16 := fun y =>
  if (y 1 : ℕ) = p * 256 + (y 0 : ℕ) then 0 else tile x xt y

/-- The overwritten columns start at 256 times the grid point. -/
theorem off_eq : ∀ t : Fin cfg0.N, k0_off1 (grid0.coords t) = ![0, t.val * 256] :=
  (by decide +kernel : ∀ t : Fin grid0.N, _)

/-- The overwriting payload at an index: zero on the block's diagonal, what was loaded elsewhere. -/
theorem diag_at (z : FVec Ideal S256x256 .bf16) (r l : Fin 256) :
    k0_pay69 (F := Ideal) z (ix2 r l) = if (l : ℕ) = r then 0 else z (ix2 r l) := by
  pointwise [k0_pay69]
  have hr := r.isLt
  have hl := l.isLt
  by_cases h : (l : ℕ) = r
  · rw [if_pos h, h]; simp [IntOp.cmpi, Scalar.select]
  · rw [if_neg h]
    have hne : ¬ BitVec.ofNat 32 (r : ℕ) = BitVec.ofNat 32 (l : ℕ) := by
      intro e
      have := congrArg BitVec.toNat e
      simp only [BitVec.toNat_ofNat] at this
      omega
    have hb : (BitVec.ofNat 32 (r : ℕ) == BitVec.ofNat 32 (l : ℕ)) = false := by simpa using hne
    simp [IntOp.cmpi, Scalar.select, hb]

/-- Stores that are blocks of one function and cover the whole buffer leave that function. -/
theorem canon_of_blocks (G : S256x4608.Idx → Elt Ideal .bf16) (L : List (View.Piece (Elt Ideal) S256x4608 .bf16))
    (h : View.PiecesOf G L) (hc : ∀ y, ∃ p ∈ L, y ∈ p.1.set) (y : S256x4608.Idx) : View.canon L y = G y := by
  have := View.canon_append_of_piecesOf G [] L h y (hc y)
  rwa [List.append_nil] at this

/-- The buffer at one index after one more store: the store's own value where it covers the index, else what was there. -/
theorem canon_overwrite (R : Rect S256x4608) (w : R.shape.Idx → Elt Ideal .bf16) (L : List (View.Piece (Elt Ideal) S256x4608 .bf16))
    (y : S256x4608.Idx) (a : Elt Ideal .bf16) (hin : ∀ x, R.emb x = y → w x = a) (hout : y ∉ R.set → View.canon L y = a) :
    View.canon (⟨R, w⟩ :: L) y = a := by
  by_cases hm : y ∈ R.set
  · obtain ⟨x, hx⟩ := R.exists_idx_of_mem hm
    have hx' : R.emb x = y := hx
    rw [← hx', View.canon_cons_emb]
    exact hin x hx'
  · rw [View.canon_cons_of_not_mem ⟨R, w⟩ L hm]
    exact hout hm

/-- THE STRIP READ BACK: stores that are blocks of `G` and cover the buffer, then the 256 columns of point `t` loaded,
    their diagonal zeroed and stored again, then the whole buffer loaded: `G` with zeros on the point's diagonal. -/
theorem readback {sig : RefSig} {κ : Kind} {sp : Space} (v : View sig κ sp S256x4608 .bf16) (t : Fin cfg0.N)
    (G : S256x4608.Idx → Elt Ideal .bf16) (L : List (View.Piece (Elt Ideal) S256x4608 .bf16))
    (inb : ∀ a, (k0_off1 (grid0.coords t)) a + (![256, 256] : Fin 2 → ℕ) a ≤ S256x4608.size a)
    (inb0 : ∀ a, (![0, 0] : Fin 2 → ℕ) a + (![256, 4608] : Fin 2 → ℕ) a ≤ S256x4608.size a)
    (h : View.PiecesOf G L) (hc : ∀ y, ∃ p ∈ L, y ∈ p.1.set) :
    v.readCov (⟨Rect.unit (s := S256x4608) (k0_off1 (grid0.coords t)) ![256, 256] inb,
        k0_pay69 (F := Ideal) (View.ld (View.canon L) (Rect.unit (s := S256x4608) (k0_off1 (grid0.coords t)) ![256, 256] inb))⟩ :: L)
      (Rect.unit (s := S256x4608) ![0, 0] ![256, 4608] inb0).toLoadRect
      = fun y : S256x4608.Idx => if (y 1 : ℕ) = t.val * 256 + (y 0 : ℕ) then 0 else G y := by
  have ho := off_eq t
  generalize k0_off1 (grid0.coords t) = off at inb ho ⊢
  subst ho
  rw [View.readCov_eq_canon']
  funext y
  have hy : (Rect.unit (s := S256x4608) ![0, 0] ![256, 4608] inb0).toLoadRect.idx y = y := by
    funext a; apply Fin.ext
    fin_cases a <;> simp [LoadRect.idx, Rect.toLoadRect, Rect.unit]
  rw [hy]
  refine canon_overwrite _ _ L y _ ?_ ?_
  · intro x hx
    have e : (fun x : S256x256.Idx => View.canon L ((Rect.unit (s := S256x4608) ![0, t.val * 256] ![256, 256] inb).toLoadRect.idx x))
        = fun x : S256x256.Idx => G ((Rect.unit (s := S256x4608) ![0, t.val * 256] ![256, 256] inb).emb x) :=
      funext fun x => canon_of_blocks G L h hc _
    have e0 : (y 0 : ℕ) = (x 0 : ℕ) := by
      rw [← hx, Rect.emb_apply]; show 0 + 1 * (x 0 : ℕ) = _; omega
    have e1 : (y 1 : ℕ) = t.val * 256 + (x 1 : ℕ) := by
      rw [← hx, Rect.emb_apply]; show t.val * 256 + 1 * (x 1 : ℕ) = _; omega
    rw [e0, e1, ← hx]
    refine (congrArg (fun z : FVec Ideal S256x256 .bf16 => k0_pay69 (F := Ideal) z x) e).trans ?_
    clear hx e0 e1 e
    change S256x256.Idx at x
    idx_vars x
    refine (diag_at _ x0 x1).trans ?_
    by_cases hd : (x1 : ℕ) = x0
    · rw [if_pos hd]; exact (if_pos (by show t.val * 256 + (x1 : ℕ) = t.val * 256 + (x0 : ℕ); omega)).symm
    · rw [if_neg hd]; exact (if_neg (by show ¬ t.val * 256 + (x1 : ℕ) = t.val * 256 + (x0 : ℕ); omega)).symm
  · intro hm
    rw [canon_of_blocks G L h hc, if_neg]
    intro hd
    rw [Rect.mem_set_unit] at hm
    refine hm ?_
    have h0 : ((y 0 : Fin 256) : ℕ) < 256 := (y 0).isLt
    intro a
    fin_cases a
    · show 0 ≤ (y 0 : ℕ) ∧ (y 0 : ℕ) < 0 + 256
      omega
    · show t.val * 256 ≤ (y 1 : ℕ) ∧ (y 1 : ℕ) < t.val * 256 + 256
      omega

end Cert.KernelIdeal.Strip

end
-- ==== Proof.Body.lean ====
/- What one grid point leaves in the buffers it carries on. A point adds to lane 0 of a 1-row accumulator the sum of the
   logs of its 256 rows; the first point starts the accumulator at zero and fills the two resident copies (the transposed
   features and the one-hot labels), and the last one writes the scaled total out. -/
module

public import proofs.«01_k».proof.Proof.Strip

@[expose] public section

set_option maxRecDepth 16384
noncomputable section

open Idealize.ShloMosaic Idealize.ShloMosaic.TcCoe Idealize.SL.Sem
open Idealize.ShloMosaic.Pipeline (Dat)

namespace Cert.KernelIdeal.Body

open Cert.KernelIdeal Cert.KernelIdeal.Gen Cert.KernelIdeal.Strip

variable (m : (ℓ : Loc nD τ sig) → Buf (Elt Ideal) ℓ)

/-- The accumulator after point `p`, from the point's feature rows `x` and labels `y`, the resident transposed features
    `xt` and one-hot labels `oh`, and the accumulator before it. -/
def step (x : FVec Ideal S256x256 .bf16) (y : Vec Ideal S256x1 .i32) (xt : FVec Ideal S256x4608 .bf16)
    (oh : FVec Ideal S4608x128 .bf16) (acc : FVec Ideal S1x128 .f32) (p : ℕ) : FVec Ideal S1x128 .f32 :=
  k0_pay1 (F := Ideal) (k0_pay70 (strip x xt p) oh) (k0_pay71 (strip x xt p) oh) y acc

/-- The 128 columns stored from column `o` on hold the tile's entries of those columns: the expression every store's
    payload reads as, at row `r` and lane `l`, is the tile at the place the store puts it. -/
theorem core (x : FVec Ideal S256x256 .bf16) (xt : FVec Ideal S256x4608 .bf16) (r : Fin 256) (l : Fin 128) (o : ℕ)
    (inb : ∀ a, (![0, o] : Fin 2 → ℕ) a + (![256, 128] : Fin 2 → ℕ) a ≤ S256x4608.size a) (k : ℕ) (hk4 : k < 4608)
    (hk : k = o + l) :
    FloatOps.exp2 (F := Ideal) (φ := .f32)
        (∑ a : Fin 256, x (ix2 r a) * ((2 * (Real.log 2)⁻¹ : ℝ) : EReal) * xt (ix2 a (⟨k, hk4⟩ : Fin 4608))
        - ∑ a : Fin 256, x (ix2 r a) * x (ix2 r a) * (((Real.log 2)⁻¹ : ℝ) : EReal)
        - ∑ a : Fin 256, (((Real.log 2)⁻¹ : ℝ) : EReal)
            * (xt (ix2 a (⟨k, hk4⟩ : Fin 4608)) * xt (ix2 a (⟨k, hk4⟩ : Fin 4608))))
      = tile x xt ((Rect.unit (s := S256x4608) ![0, o] ![256, 128] inb).emb (ix2 r l)) := by
  have e0 : (Rect.unit (s := S256x4608) ![0, o] ![256, 128] inb).emb (ix2 r l) 0 = r := by
    apply Fin.ext
    rw [Rect.emb_apply]
    show 0 + 1 * (r : ℕ) = r
    omega
  have e1 : (Rect.unit (s := S256x4608) ![0, o] ![256, 128] inb).emb (ix2 r l) 1 = (⟨k, hk4⟩ : Fin 4608) := by
    apply Fin.ext
    rw [Rect.emb_apply]
    show o + 1 * (l : ℕ) = k
    omega
  unfold tile entry
  rw [e0, e1]

/-- A buffer filled by one copy of the whole holds what was copied. -/
theorem canon_copy {s : Shape} {e : EltTy} (w : s.Idx → Elt Ideal e) :
    View.canon [(⟨Rect.whole s, w⟩ : View.Piece (Elt Ideal) s e)] = w := by
  funext y
  have h := View.canon_cons_emb (Rect.whole s) w [] y
  rwa [Rect.emb_whole_apply] at h

/-- A load of a rectangle of a buffer filled by one copy of the whole reads that rectangle of what was copied. -/
theorem readCov_copy {sig : RefSig} {κ : Kind} {sp : Space} {s : Shape} {e : EltTy} (v : View sig κ sp s e)
    (w : s.Idx → Elt Ideal e) (r : Rect s) :
    v.readCov [(⟨Rect.whole s, w⟩ : View.Piece (Elt Ideal) s e)] r.toLoadRect = View.ld w r := by
  rw [View.readCov_eq_canon', canon_copy]

/-- The copy of the transposed features carries them unchanged. -/
theorem copy_v4 (X : S256x4608.Idx → Elt Ideal .bf16) :
    ReadAs.same.apply (View.read (Elt Ideal) (View.whole main_v4) X) = X := rfl

/-- The copy of the one-hot labels carries them unchanged. -/
theorem copy_v11 (X : S4608x128.Idx → Elt Ideal .bf16) :
    ReadAs.same.apply (View.read (Elt Ideal) (View.whole main_v11) X) = X := rfl

/-- A load of all of the one-hot labels reads them. -/
theorem ld_all (w : S4608x128.Idx → Elt Ideal .bf16)
    (inb : ∀ a, (![0, 0] : Fin 2 → ℕ) a + (![4608, 128] : Fin 2 → ℕ) a ≤ S4608x128.size a) :
    View.ld (Val := Elt Ideal) (e' := .bf16) w (Rect.unit (s := S4608x128) ![0, 0] ![4608, 128] inb) = w := by
  funext y
  show w ((Rect.unit (s := S4608x128) ![0, 0] ![4608, 128] inb).emb y) = w y
  congr 1
  funext a
  apply Fin.ext
  rw [Rect.emb_apply]
  fin_cases a
  · show 0 + 1 * (y 0 : ℕ) = y 0
    omega
  · show 0 + 1 * (y 1 : ℕ) = y 1
    omega

set_option maxHeartbeats 1000000 in
/-- The accumulator after a point of the middle of the grid. -/
theorem acc_B (c : Dev nD) (t : Fin cfg0.N) (h0 : ¬t.val % 18 = 0) (h1 : ¬t.val % 18 = 17) (hb : t.val - 1 < cfg0.N) :
    (outsAt0 m c t.val t.isLt).2.2.2 = step (iblk m c 0 t) (iblk m c 1 t) (outsAt0 m c (t.val - 1) hb).2.1
      (outsAt0 m c (t.val - 1) hb).2.2.1 (outsAt0 m c (t.val - 1) hb).2.2.2 t.val := by
  rw [outsAt0_B m c t h0 h1]
  dsimp only
  unfold sout0_B_3
  frame_out
  simp only [read_unread_whole]
  generalize (outsAt0 m c (t.val - 1) hb).2.1 = xt
  generalize (outsAt0 m c (t.val - 1) hb).2.2.1 = oh
  generalize (outsAt0 m c (t.val - 1) hb).2.2.2 = acc
  generalize iblk m c 0 t = x
  change FVec Ideal S256x256 .bf16 at x
  generalize iblk m c 1 t = y
  refine congrArg (fun s : FVec Ideal S256x4608 .bf16 => k0_pay1 (F := Ideal) (k0_pay70 s oh) (k0_pay71 s oh) y acc)
    (?_ : _ = strip x xt t.val)
  refine readback _ t (tile x xt) _ _ _ ?hps ?hc
  case hc =>
    apply View.cover_of_tiledL (s := S256x4608) _ ![256, 128]
    sl_kernel_rfl
  case hps =>
    refine ⟨fun z => ?_, fun z => ?_, fun z => ?_, fun z => ?_, fun z => ?_, fun z => ?_, fun z => ?_, fun z => ?_, fun z
      => ?_, fun z => ?_, fun z => ?_, fun z => ?_, fun z => ?_, fun z => ?_, fun z => ?_, fun z => ?_, fun z => ?_,
      fun z => ?_, fun z => ?_, fun z => ?_, fun z => ?_, fun z => ?_, fun z => ?_, fun z => ?_, fun z => ?_, fun z
      => ?_, fun z => ?_, fun z => ?_, fun z => ?_, fun z => ?_, fun z => ?_, fun z => ?_, fun z => ?_, fun z => ?_,
      fun z => ?_, fun z => ?_, trivial⟩
    all_goals
      idx_vars z
      pointwise [k0_pay4, k0_pay5, k0_pay6, k0_pay7, k0_pay8, k0_pay9, k0_pay10, k0_pay11, k0_pay12, k0_pay13, k0_pay14,
        k0_pay15, k0_pay16, k0_pay17, k0_pay18, k0_pay19, k0_pay20, k0_pay21, k0_pay22, k0_pay23, k0_pay24, k0_pay25,
        k0_pay26, k0_pay27, k0_pay28, k0_pay29, k0_pay30, k0_pay31, k0_pay32, k0_pay33, k0_pay34, k0_pay35, k0_pay36,
        k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58,
        k0_pay59, k0_pay60, k0_pay61, k0_pay62, k0_pay63, k0_pay64, k0_pay65, k0_pay66, k0_pay67, k0_pay68, named_log2e, named_two_log2e]
      refine core x xt _ _ _ _ _ _ ?_
      omega

set_option maxHeartbeats 1000000 in
/-- The accumulator after the last point. -/
theorem acc_C (c : Dev nD) (t : Fin cfg0.N) (h0 : ¬t.val % 18 = 0) (h1 : t.val % 18 = 17) (hb : t.val - 1 < cfg0.N) :
    (outsAt0 m c t.val t.isLt).2.2.2 = step (iblk m c 0 t) (iblk m c 1 t) (outsAt0 m c (t.val - 1) hb).2.1
      (outsAt0 m c (t.val - 1) hb).2.2.1 (outsAt0 m c (t.val - 1) hb).2.2.2 t.val := by
  rw [outsAt0_C m c t h0 h1]
  dsimp only
  unfold sout0_C_3
  frame_out
  simp only [read_unread_whole]
  generalize (outsAt0 m c (t.val - 1) hb).2.1 = xt
  generalize (outsAt0 m c (t.val - 1) hb).2.2.1 = oh
  generalize (outsAt0 m c (t.val - 1) hb).2.2.2 = acc
  generalize iblk m c 0 t = x
  change FVec Ideal S256x256 .bf16 at x
  generalize iblk m c 1 t = y
  refine congrArg (fun s : FVec Ideal S256x4608 .bf16 => k0_pay1 (F := Ideal) (k0_pay70 s oh) (k0_pay71 s oh) y acc)
    (?_ : _ = strip x xt t.val)
  refine readback _ t (tile x xt) _ _ _ ?hps ?hc
  case hc =>
    apply View.cover_of_tiledL (s := S256x4608) _ ![256, 128]
    sl_kernel_rfl
  case hps =>
    refine ⟨fun z => ?_, fun z => ?_, fun z => ?_, fun z => ?_, fun z => ?_, fun z => ?_, fun z => ?_, fun z => ?_, fun z
      => ?_, fun z => ?_, fun z => ?_, fun z => ?_, fun z => ?_, fun z => ?_, fun z => ?_, fun z => ?_, fun z => ?_,
      fun z => ?_, fun z => ?_, fun z => ?_, fun z => ?_, fun z => ?_, fun z => ?_, fun z => ?_, fun z => ?_, fun z
      => ?_, fun z => ?_, fun z => ?_, fun z => ?_, fun z => ?_, fun z => ?_, fun z => ?_, fun z => ?_, fun z => ?_,
      fun z => ?_, fun z => ?_, trivial⟩
    all_goals
      idx_vars z
      pointwise [k0_pay4, k0_pay5, k0_pay6, k0_pay7, k0_pay8, k0_pay9, k0_pay10, k0_pay11, k0_pay12, k0_pay13, k0_pay14,
        k0_pay15, k0_pay16, k0_pay17, k0_pay18, k0_pay19, k0_pay20, k0_pay21, k0_pay22, k0_pay23, k0_pay24, k0_pay25,
        k0_pay26, k0_pay27, k0_pay28, k0_pay29, k0_pay30, k0_pay31, k0_pay32, k0_pay33, k0_pay34, k0_pay35, k0_pay36,
        k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58,
        k0_pay59, k0_pay60, k0_pay61, k0_pay62, k0_pay63, k0_pay64, k0_pay65, k0_pay66, k0_pay67, k0_pay68, named_log2e, named_two_log2e]
      refine core x xt _ _ _ _ _ _ ?_
      omega

set_option maxHeartbeats 1000000 in
/-- What the last point writes out: lane 0 of the accumulator it leaves, scaled. -/
theorem out_C (c : Dev nD) (t : Fin cfg0.N) (h0 : ¬t.val % 18 = 0) (h1 : t.val % 18 = 17) (hb : t.val - 1 < cfg0.N) :
    (outsAt0 m c t.val t.isLt).1 = k0_pay2 (F := Ideal) (fun _ => (step (iblk m c 0 t) (iblk m c 1 t) (outsAt0 m c (t.val - 1) hb).2.1
      (outsAt0 m c (t.val - 1) hb).2.2.1 (outsAt0 m c (t.val - 1) hb).2.2.2 t.val) (ix2 0 0)) := by
  rw [outsAt0_C m c t h0 h1]
  dsimp only
  unfold out0_C_2
  frame_out
  simp only [read_unread_whole]
  generalize (outsAt0 m c (t.val - 1) hb).2.1 = xt
  generalize (outsAt0 m c (t.val - 1) hb).2.2.1 = oh
  generalize (outsAt0 m c (t.val - 1) hb).2.2.2 = acc
  generalize iblk m c 0 t = x
  change FVec Ideal S256x256 .bf16 at x
  generalize iblk m c 1 t = y
  refine congrArg (k0_pay2 (F := Ideal)) ?_
  refine (View.readCov_fill (s := S1x128) _ inb_S1x128_S1x128_0_0 _ [] _ (fun a => by fin_cases a <;> rfl)).trans ?_
  funext z
  show _ = step x y xt oh acc t.val (ix2 0 0)
  change k0_pay1 (F := Ideal) (k0_pay70 _ oh) (k0_pay71 _ oh) y acc ((Rect.unit (s := S1x128) ![0, 0] ![1, 1] inb_S1x128_S1x1_0_0).emb z) = _
  have hz : (Rect.unit (s := S1x128) ![0, 0] ![1, 1] inb_S1x128_S1x1_0_0).emb z = (ix2 (0 : Fin 1) (0 : Fin 128) : S1x128.Idx) := by
    change S1x1.Idx at z
    funext a
    apply Fin.ext
    rw [Rect.emb_apply]
    have e0 : ((z 0 : Fin 1) : ℕ) < 1 := (z 0).isLt
    have e1 : ((z 1 : Fin 1) : ℕ) < 1 := (z 1).isLt
    fin_cases a
    · show 0 + 1 * (z 0 : ℕ) = 0
      omega
    · show 0 + 1 * (z 1 : ℕ) = 0
      omega
  refine (congrArg _ hz).trans ?_
  refine congrFun (?_ : _ = step x y xt oh acc t.val) _
  refine congrArg (fun s : FVec Ideal S256x4608 .bf16 => k0_pay1 (F := Ideal) (k0_pay70 s oh) (k0_pay71 s oh) y acc)
    (?_ : _ = strip x xt t.val)
  refine readback _ t (tile x xt) _ _ _ ?hps ?hc
  case hc =>
    apply View.cover_of_tiledL (s := S256x4608) _ ![256, 128]
    sl_kernel_rfl
  case hps =>
    refine ⟨fun z => ?_, fun z => ?_, fun z => ?_, fun z => ?_, fun z => ?_, fun z => ?_, fun z => ?_, fun z => ?_, fun z
      => ?_, fun z => ?_, fun z => ?_, fun z => ?_, fun z => ?_, fun z => ?_, fun z => ?_, fun z => ?_, fun z => ?_,
      fun z => ?_, fun z => ?_, fun z => ?_, fun z => ?_, fun z => ?_, fun z => ?_, fun z => ?_, fun z => ?_, fun z
      => ?_, fun z => ?_, fun z => ?_, fun z => ?_, fun z => ?_, fun z => ?_, fun z => ?_, fun z => ?_, fun z => ?_,
      fun z => ?_, fun z => ?_, trivial⟩
    all_goals
      idx_vars z
      pointwise [k0_pay4, k0_pay5, k0_pay6, k0_pay7, k0_pay8, k0_pay9, k0_pay10, k0_pay11, k0_pay12, k0_pay13, k0_pay14,
        k0_pay15, k0_pay16, k0_pay17, k0_pay18, k0_pay19, k0_pay20, k0_pay21, k0_pay22, k0_pay23, k0_pay24, k0_pay25,
        k0_pay26, k0_pay27, k0_pay28, k0_pay29, k0_pay30, k0_pay31, k0_pay32, k0_pay33, k0_pay34, k0_pay35, k0_pay36,
        k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58,
        k0_pay59, k0_pay60, k0_pay61, k0_pay62, k0_pay63, k0_pay64, k0_pay65, k0_pay66, k0_pay67, k0_pay68, named_log2e, named_two_log2e]
      refine core x xt _ _ _ _ _ _ ?_
      omega

set_option maxHeartbeats 1000000 in
/-- The accumulator after the first point. -/
theorem acc_A (c : Dev nD) (t : Fin cfg0.N) (h0 : t.val % 18 = 0) (h1 : ¬t.val % 18 = 17) :
    (outsAt0 m c t.val t.isLt).2.2.2 = step (iblk m c 0 t) (iblk m c 1 t) (V m c main_v4) (V m c main_v11) k0_pay3 t.val := by
  rw [outsAt0_A m c t h0 h1]
  dsimp only
  unfold sout0_A_3
  frame_out
  simp only [readCov_copy]
  rw [copy_v4, copy_v11, ld_all]
  generalize V m c main_v4 = xt
  change FVec Ideal S256x4608 .bf16 at xt
  generalize V m c main_v11 = oh
  change FVec Ideal S4608x128 .bf16 at oh
  generalize iblk m c 0 t = x
  change FVec Ideal S256x256 .bf16 at x
  generalize iblk m c 1 t = y
  generalize k0_pay3 (F := Ideal) = acc
  refine congrArg (fun s : FVec Ideal S256x4608 .bf16 => k0_pay1 (F := Ideal) (k0_pay70 s oh) (k0_pay71 s oh) y acc)
    (?_ : _ = strip x xt t.val)
  refine readback _ t (tile x xt) _ _ _ ?hps ?hc
  case hc =>
    apply View.cover_of_tiledL (s := S256x4608) _ ![256, 128]
    sl_kernel_rfl
  case hps =>
    refine ⟨fun z => ?_, fun z => ?_, fun z => ?_, fun z => ?_, fun z => ?_, fun z => ?_, fun z => ?_, fun z => ?_, fun z
      => ?_, fun z => ?_, fun z => ?_, fun z => ?_, fun z => ?_, fun z => ?_, fun z => ?_, fun z => ?_, fun z => ?_,
      fun z => ?_, fun z => ?_, fun z => ?_, fun z => ?_, fun z => ?_, fun z => ?_, fun z => ?_, fun z => ?_, fun z
      => ?_, fun z => ?_, fun z => ?_, fun z => ?_, fun z => ?_, fun z => ?_, fun z => ?_, fun z => ?_, fun z => ?_,
      fun z => ?_, fun z => ?_, trivial⟩
    all_goals
      idx_vars z
      pointwise [k0_pay4, k0_pay5, k0_pay6, k0_pay7, k0_pay8, k0_pay9, k0_pay10, k0_pay11, k0_pay12, k0_pay13, k0_pay14,
        k0_pay15, k0_pay16, k0_pay17, k0_pay18, k0_pay19, k0_pay20, k0_pay21, k0_pay22, k0_pay23, k0_pay24, k0_pay25,
        k0_pay26, k0_pay27, k0_pay28, k0_pay29, k0_pay30, k0_pay31, k0_pay32, k0_pay33, k0_pay34, k0_pay35, k0_pay36,
        k0_pay37, k0_pay38, k0_pay39, k0_pay40, k0_pay41, k0_pay42, k0_pay43, k0_pay44, k0_pay45, k0_pay46, k0_pay47,
        k0_pay48, k0_pay49, k0_pay50, k0_pay51, k0_pay52, k0_pay53, k0_pay54, k0_pay55, k0_pay56, k0_pay57, k0_pay58,
        k0_pay59, k0_pay60, k0_pay61, k0_pay62, k0_pay63, k0_pay64, k0_pay65, k0_pay66, k0_pay67, k0_pay68, named_log2e, named_two_log2e]
      refine core x xt _ _ _ _ _ _ ?_
      omega

set_option maxHeartbeats 1000000 in
/-- The first point leaves the transposed features in the first resident buffer. -/
theorem xt_A (c : Dev nD) (t : Fin cfg0.N) (h0 : t.val % 18 = 0) (h1 : ¬t.val % 18 = 17) :
    (outsAt0 m c t.val t.isLt).2.1 = V m c main_v4 := by
  rw [outsAt0_A m c t h0 h1]
  dsimp only
  unfold sout0_A_0
  frame_out
  exact canon_copy _

set_option maxHeartbeats 1000000 in
/-- The first point leaves the one-hot labels in the second resident buffer. -/
theorem oh_A (c : Dev nD) (t : Fin cfg0.N) (h0 : t.val % 18 = 0) (h1 : ¬t.val % 18 = 17) :
    (outsAt0 m c t.val t.isLt).2.2.1 = V m c main_v11 := by
  rw [outsAt0_A m c t h0 h1]
  dsimp only
  unfold sout0_A_1
  frame_out
  exact canon_copy _

end Cert.KernelIdeal.Body

end
-- ==== Proof.Fold.lean ====
/- The kernel's result as a sum over the grid. Lane 0 of the accumulator collects one sum of 256 logs at each grid point;
   after the last point it is scaled and written out. -/
module

public import proofs.«01_k».proof.Proof.Body

@[expose] public section

set_option maxRecDepth 16384

noncomputable section

open Idealize.ShloMosaic Idealize.ShloMosaic.TcCoe Idealize.SL.Sem
open Idealize.ShloMosaic.Pipeline (Dat)

namespace Cert.KernelIdeal.Fold

open Cert.KernelIdeal Cert.KernelIdeal.Gen Cert.KernelIdeal.Strip Cert.KernelIdeal.Body

variable (m : (ℓ : Loc nD τ sig) → Buf (Elt Ideal) ℓ)

/-- The column of the class sums a label reads: a negative label counts from the end, and the column is taken modulo 128. -/
def column (b : BitVec 32) : Fin 128 :=
  ⟨(Scalar.select (IntOp.cmpi .slt b 0#32) (IntOp.addi b 128#32) b).toNat % 128, Nat.mod_lt _ (by decide)⟩

/-- The log one row adds: the row's entries of its own class over all its entries. -/
def rowLog (x : FVec Ideal S256x256 .bf16) (y : Vec Ideal S256x1 .i32) (xt : FVec Ideal S256x4608 .bf16)
    (oh : FVec Ideal S4608x128 .bf16) (p : ℕ) (r : Fin 256) : EReal :=
  Ideal.log (Ideal.div (∑ k : Fin 4608, strip x xt p (ix2 r k) * oh (ix2 k (column (y (ix2 r (0 : Fin 1))))))
    (∑ a : Fin 128, ∑ k : Fin 4608, strip x xt p (ix2 r k) * oh (ix2 k a)))

/-- A point adds the logs of its 256 rows to lane 0 of the accumulator. -/
theorem step_lane (x : FVec Ideal S256x256 .bf16) (y : Vec Ideal S256x1 .i32) (xt : FVec Ideal S256x4608 .bf16)
    (oh : FVec Ideal S4608x128 .bf16) (acc : FVec Ideal S1x128 .f32) (p : ℕ) :
    step x y xt oh acc p (ix2 (0 : Fin 1) (0 : Fin 128))
      = acc (ix2 (0 : Fin 1) (0 : Fin 128)) + ∑ r : Fin 256, rowLog x y xt oh p r := by
  unfold step rowLog column
  generalize strip x xt p = s
  pointwise [k0_pay1, k0_pay70, k0_pay71]

/-- What grid point `p` adds to lane 0 of the accumulator. -/
def pointSum (c : Dev nD) (p : ℕ) : EReal :=
  if h : p < cfg0.N then
    ∑ r : Fin 256, rowLog (iblk m c 0 ⟨p, h⟩) (iblk m c 1 ⟨p, h⟩) (V m c main_v4) (V m c main_v11) p r
  else 0

/-- The zero the accumulator starts from. -/
theorem start_lane : k0_pay3 (F := Ideal) (ix2 (0 : Fin 1) (0 : Fin 128)) = 0 := by
  pointwise [k0_pay3]

/-- After point `n` the resident buffers hold the transposed features and the one-hot labels, and lane 0 of the
    accumulator holds what the points up to `n` added. -/
theorem carried (c : Dev nD) : ∀ n : ℕ, ∀ hn : n < cfg0.N,
    (outsAt0 m c n hn).2.1 = V m c main_v4 ∧ (outsAt0 m c n hn).2.2.1 = V m c main_v11
      ∧ (outsAt0 m c n hn).2.2.2 (ix2 (0 : Fin 1) (0 : Fin 128)) = ∑ p ∈ Finset.range (n + 1), pointSum m c p
  | 0, hn => by
    have h1 : ¬ (0 : ℕ) % 18 = 17 := by decide
    refine ⟨xt_A m c ⟨0, hn⟩ rfl h1, oh_A m c ⟨0, hn⟩ rfl h1, ?_⟩
    refine (congrFun (acc_A m c ⟨0, hn⟩ rfl h1) _).trans ?_
    rw [step_lane, start_lane, zero_add, Finset.sum_range_one, pointSum, dif_pos hn]
  | n + 1, hn => by
    have hN : n + 1 < 18 := lt_of_lt_of_eq hn (show cfg0.N = 18 from N_0)
    have hb : n < cfg0.N := lt_trans (Nat.lt_succ_self n) hn
    obtain ⟨i0, i1, i2⟩ := carried c n hb
    have h0 : ¬ (n + 1) % 18 = 0 := by omega
    have key : (outsAt0 m c (n + 1) hn).2.1 = (outsAt0 m c n hb).2.1
        ∧ (outsAt0 m c (n + 1) hn).2.2.1 = (outsAt0 m c n hb).2.2.1
        ∧ (outsAt0 m c (n + 1) hn).2.2.2 = step (iblk m c 0 ⟨n + 1, hn⟩) (iblk m c 1 ⟨n + 1, hn⟩) (outsAt0 m c n hb).2.1
            (outsAt0 m c n hb).2.2.1 (outsAt0 m c n hb).2.2.2 (n + 1) := by
      by_cases h1 : (n + 1) % 18 = 17
      · refine ⟨?_, ?_, acc_C m c ⟨n + 1, hn⟩ h0 h1 hb⟩
        · exact congrArg (fun o => o.2.1) (outsAt0_C m c ⟨n + 1, hn⟩ h0 h1)
        · exact congrArg (fun o => o.2.2.1) (outsAt0_C m c ⟨n + 1, hn⟩ h0 h1)
      · refine ⟨?_, ?_, acc_B m c ⟨n + 1, hn⟩ h0 h1 hb⟩
        · exact congrArg (fun o => o.2.1) (outsAt0_B m c ⟨n + 1, hn⟩ h0 h1)
        · exact congrArg (fun o => o.2.2.1) (outsAt0_B m c ⟨n + 1, hn⟩ h0 h1)
    refine ⟨key.1.trans i0, key.2.1.trans i1, ?_⟩
    rw [key.2.2, step_lane, i0, i1, i2, Finset.sum_range_succ _ (n + 1)]
    congr 1
    rw [pointSum, dif_pos hn]

/-- The last point writes out the scaled total. -/
theorem out_last (c : Dev nD) (hn : 17 < cfg0.N) (i : S1x1.Idx) :
    (outsAt0 m c 17 hn).1 i = (∑ p ∈ Finset.range 18, pointSum m c p) * ((-1 / 4608 : ℝ) : EReal) := by
  have h0 : ¬ (17 : ℕ) % 18 = 0 := by decide
  have h1 : (17 : ℕ) % 18 = 17 := by decide
  have hb : 16 < cfg0.N := lt_trans (by decide) hn
  obtain ⟨-, -, i2⟩ := carried m c 17 hn
  have e := acc_C m c ⟨17, hn⟩ h0 h1 hb
  refine (congrFun (out_C m c ⟨17, hn⟩ h0 h1 hb) i).trans ?_
  rw [← e]
  have e2 : ∀ z : EReal, k0_pay2 (F := Ideal) (fun _ => z) i = z * ((-1 / 4608 : ℝ) : EReal) := by
    intro z
    rw [← named_neg_inv_n]
    rfl
  rw [e2]
  exact congrArg (· * _) i2

/-- The last point of the grid. -/
def tLast : Fin cfg0.N := (⟨17, by decide⟩ : Fin grid0.N)

/-- The result array holds the scaled total. -/
theorem result (c : Dev nD) (i : S1x1.Idx) :
    (dats m 0 c).arrAt 2 cfg0.N i = (∑ p ∈ Finset.range 18, pointSum m c p) * ((-1 / 4608 : ℝ) : EReal) := by
  refine congrFun ((dats m 0 c).arrAt_eq_of_after_last 2 tLast (by decide +kernel) (fun _ => _) fun j => ?_) i
  blk_simp
  rw [after0_2]
  exact out_last m c tLast.isLt _

end Cert.KernelIdeal.Fold

end
-- ==== Proof.Reads.lean ====
/- What the kernel's buffers hold when a grid point reads them: the feature rows and the sampled labels, as functions of the
   argument arrays. -/
module

public import proofs.«01_k».proof.Proof.Fold
public import Idealize.ShloMosaic.Lib.Claim

@[expose] public section

set_option maxRecDepth 16384

noncomputable section

open Idealize.ShloMosaic Idealize.ShloMosaic.TcCoe Idealize.SL.Sem

namespace Cert.KernelIdeal.Reads

open Cert.KernelIdeal Cert.KernelIdeal.Gen Cert.KernelIdeal.Strip Cert.KernelIdeal.Fold

/-- The features as 4608 rows of 256 numbers. -/
def featsOf (a : FVec Ideal S2x256x48x48 .f32) : FVec Ideal S4608x256 .f32 :=
  shapeCast _ a shapeCasts_S2x256x48x48_S4608x256

/-- The labels sampled at every eighth row and column, one per feature row. -/
def labelsOf (a : IVec S2x384x384 32) : IVec S4608 32 :=
  shapeCast _ (Host.slice S2x48x48 ![0, 0, 0] ![1, 8, 8] a slicesBy_S2x384x384_S2x48x48_0s1_0s8_0s8)
    shapeCasts_S2x48x48_S4608

/-- A sampled label, read off the label array. -/
theorem labelsOf_at (a : IVec S2x384x384 32) (i : Fin 4608) :
    labelsOf a (ix1 i) = a (ix3 (⟨i.val / 2304, by omega⟩ : Fin 2) (⟨8 * (i.val / 48 % 48), by omega⟩ : Fin 384)
      (⟨8 * (i.val % 48), by omega⟩ : Fin 384)) := by
  pointwise [labelsOf]

variable (m : (ℓ : Loc nD τ sig) → Buf (Elt Ideal) ℓ)

/-- The feature array the grid's first window reads. -/
theorem v3_at (c : Dev nD) (i : Fin 4608) (k : Fin 256) :
    V m c main_v3 (ix2 i k) = featsOf (m ((c.tc : Thread nD τ).loc main_arg2)) (ix2 i k) := by
  entry_read
  rfl

/-- The transposed feature array copied in at the first grid point. -/
theorem v4_at (c : Dev nD) (i : Fin 4608) (k : Fin 256) :
    V m c main_v4 (ix2 k i) = featsOf (m ((c.tc : Thread nD τ).loc main_arg2)) (ix2 i k) := by
  entry_read
  pointwise [featsOf]
  rfl

/-- The label array the grid's second window reads. -/
theorem v12_at (c : Dev nD) (i : Fin 4608) :
    V m c main_v12 (ix2 i (0 : Fin 1)) = labelsOf (m ((c.tc : Thread nD τ).loc main_arg0)) (ix1 i) := by
  entry_read
  pointwise [labelsOf]

/-- The one-hot array copied in at the first grid point: one where the row's label is the column's number. -/
theorem v11_at (c : Dev nD) (i : Fin 4608) (a : Fin 128) :
    V m c main_v11 (ix2 i a) = FloatOps.uitofp (F := Ideal) .bf16
      (IntOp.cmpi .eq (labelsOf (m ((c.tc : Thread nD τ).loc main_arg0)) (ix1 i)) (BitVec.ofNat 32 a.val)) := by
  entry_read
  pointwise [labelsOf]

/-- Where the two input windows' blocks start. -/
theorem idx : ∀ t : Fin cfg0.N, win0_0.index t = ![t.val, 0] ∧ win0_1.index t = ![t.val, 0] :=
  (by decide +kernel : ∀ t : Fin grid0.N, _)

/-- Row `r` of the feature block of point `t` is feature row `256 t + r`. -/
theorem block_feats (c : Dev nD) (t : Fin cfg0.N) (r k : Fin 256) (h : t.val * 256 + r.val < 4608) :
    iblk m c 0 t (ix2 r k)
      = featsOf (m ((c.tc : Thread nD τ).loc main_arg2)) (ix2 (⟨t.val * 256 + r.val, h⟩ : Fin 4608) k) := by
  refine Eq.trans ?_ (v3_at m c _ _)
  blk_ext [iblk, idx t]

/-- Row `r` of the label block of point `t` is the label of feature row `256 t + r`. -/
theorem block_label (c : Dev nD) (t : Fin cfg0.N) (r : Fin 256) (h : t.val * 256 + r.val < 4608) :
    iblk m c 1 t (ix2 r (0 : Fin 1))
      = labelsOf (m ((c.tc : Thread nD τ).loc main_arg0)) (ix1 (⟨t.val * 256 + r.val, h⟩ : Fin 4608)) := by
  refine Eq.trans ?_ (v12_at m c _)
  blk_ext [iblk, idx t]

/-- The kernel value of two feature rows: zero for a row with itself. -/
def kern (x : FVec Ideal S4608x256 .f32) (i j : Fin 4608) : EReal :=
  if j = i then 0 else entry (fun k => x (ix2 i k)) (fun k => x (ix2 j k))

/-- The log one row contributes, over all rows' labels. -/
def rowTerm (x : FVec Ideal S4608x256 .f32) (y : IVec S4608 32) (i : Fin 4608) : EReal :=
  Ideal.log (Ideal.div
    (∑ j, kern x i j * FloatOps.uitofp (F := Ideal) .bf16
      (IntOp.cmpi .eq (y (ix1 j)) (BitVec.ofNat 32 (column (y (ix1 i))).val)))
    (∑ a : Fin 128, ∑ j, kern x i j * FloatOps.uitofp (F := Ideal) .bf16
      (IntOp.cmpi .eq (y (ix1 j)) (BitVec.ofNat 32 a.val))))

/-- One entry of a point's strip is the kernel value of the two feature rows. -/
theorem strip_at (c : Dev nD) (t : Fin cfg0.N) (r : Fin 256) (j : Fin 4608) (h : t.val * 256 + r.val < 4608) :
    strip (iblk m c 0 t) (V m c main_v4) t.val (ix2 r j)
      = kern (featsOf (m ((c.tc : Thread nD τ).loc main_arg2))) ⟨t.val * 256 + r.val, h⟩ j := by
  unfold strip kern tile
  refine if_congr ?_ rfl ?_
  · exact ⟨fun e => Fin.ext e, fun e => congrArg Fin.val e⟩
  · exact congrArg₂ entry (funext fun k => block_feats m c t r k h) (funext fun k => v4_at m c j k)

/-- What a row of a grid point's block contributes. -/
theorem rowLog_eq (c : Dev nD) (t : Fin cfg0.N) (r : Fin 256) (h : t.val * 256 + r.val < 4608) :
    rowLog (iblk m c 0 t) (iblk m c 1 t) (V m c main_v4) (V m c main_v11) t.val r
      = rowTerm (featsOf (m ((c.tc : Thread nD τ).loc main_arg2))) (labelsOf (m ((c.tc : Thread nD τ).loc main_arg0)))
          ⟨t.val * 256 + r.val, h⟩ := by
  unfold rowLog rowTerm
  rw [block_label m c t r h]
  refine congrArg Ideal.log (congrArg₂ Ideal.div ?_ ?_)
  · exact Finset.sum_congr rfl fun j _ => congrArg₂ (· * ·) (strip_at m c t r j h) (v11_at m c j _)
  · exact Finset.sum_congr rfl fun a _ => Finset.sum_congr rfl fun j _ =>
      congrArg₂ (· * ·) (strip_at m c t r j h) (v11_at m c j a)

/-- The grid's sums together are the sum over all rows. -/
theorem total (c : Dev nD) :
    ∑ p ∈ Finset.range 18, pointSum m c p
      = ∑ i : Fin 4608, rowTerm (featsOf (m ((c.tc : Thread nD τ).loc main_arg2)))
          (labelsOf (m ((c.tc : Thread nD τ).loc main_arg0))) i := by
  rw [Finset.sum_range, Fin.sum_univ_tiles 18 256 rfl]
  refine Finset.sum_congr rfl fun p _ => ?_
  have hp : p.val < cfg0.N := p.isLt
  unfold pointSum
  rw [dif_pos hp]
  exact Finset.sum_congr rfl fun r _ => rowLog_eq m c ⟨p.val, hp⟩ r _

end Cert.KernelIdeal.Reads

end
-- ==== Proof.RefValue.lean ====
/- The reference's result read at its one index: the loss as sums over the 4608 rows, with the reference's own operations. -/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Value

/-- The sampled coordinates: `(384 * i) // 48` for `i` below 48, by the floor division of 32-bit words. -/
def coordTerm : Vec Ideal S48 .i32 :=
  select (andi (cmpi .ne (signi (muli (iotaInDim S48 32 0) (broadcastInDim S48 ![] bcast_S_S48 (constantI S_ 32 384#32))))
        (broadcastInDim S48 ![] bcast_S_S48 (signi (id (constantI S_ 32 48#32)))))
      (cmpi .ne (Host.remsi (muli (iotaInDim S48 32 0) (broadcastInDim S48 ![] bcast_S_S48 (constantI S_ 32 384#32)))
          (broadcastInDim S48 ![] bcast_S_S48 (id (constantI S_ 32 48#32))))
        (broadcastInDim S48 ![] bcast_S_S48 (constantI S_ 32 0#32))))
    (subi (Host.divsi (muli (iotaInDim S48 32 0) (broadcastInDim S48 ![] bcast_S_S48 (constantI S_ 32 384#32)))
        (broadcastInDim S48 ![] bcast_S_S48 (id (constantI S_ 32 48#32))))
      (broadcastInDim S48 ![] bcast_S_S48 (constantI S_ 32 1#32)))
    (Host.divsi (muli (iotaInDim S48 32 0) (broadcastInDim S48 ![] bcast_S_S48 (constantI S_ 32 384#32)))
      (broadcastInDim S48 ![] bcast_S_S48 (id (constantI S_ 32 48#32))))

/-- The sampled coordinates along the rows, a negative one counted from the end. -/
def rowTerm : Vec Ideal S48x48x1 .i32 :=
  broadcastInDim S48x48x1 ![0, 1] bcast_S48x48_S48x48x1_0_1 (broadcastInDim S48x48 ![0, 1] bcast_S48x1_S48x48_0_1
    (select (cmpi .slt (broadcastInDim S48x1 ![0] bcast_S48_S48x1_0 coordTerm)
        (broadcastInDim S48x1 ![] bcast_S_S48x1 (constantI S_ 32 0#32)))
      (addi (broadcastInDim S48x1 ![0] bcast_S48_S48x1_0 coordTerm)
        (broadcastInDim S48x1 ![] bcast_S_S48x1 (constantI S_ 32 384#32)))
      (broadcastInDim S48x1 ![0] bcast_S48_S48x1_0 coordTerm)))

/-- The sampled coordinates along the columns, a negative one counted from the end. -/
def colTerm : Vec Ideal S48x48x1 .i32 :=
  broadcastInDim S48x48x1 ![0, 1] bcast_S48x48_S48x48x1_0_1 (broadcastInDim S48x48 ![0, 1] bcast_S1x48_S48x48_0_1
    (select (cmpi .slt (broadcastInDim S1x48 ![1] bcast_S48_S1x48_1 coordTerm)
        (broadcastInDim S1x48 ![] bcast_S_S1x48 (constantI S_ 32 0#32)))
      (addi (broadcastInDim S1x48 ![1] bcast_S48_S1x48_1 coordTerm)
        (broadcastInDim S1x48 ![] bcast_S_S1x48 (constantI S_ 32 384#32)))
      (broadcastInDim S1x48 ![1] bcast_S48_S1x48_1 coordTerm)))

/-- The labels sampled at those coordinates, one per feature row. -/
def labelTerm (a : Vec Ideal S2x384x384 .i32) : Vec Ideal S4608 .i32 :=
  shapeCast _ (Host.gather gather_S2x384x384_S48x48x2_S2x48x48_0_12_n_n_12_2_211 a
    (fn_main_v24 (F := Ideal) rowTerm colTerm)) shapeCasts_S2x48x48_S4608

/-- The rows' squared norms. -/
def normTerm (x : FVec Ideal S4608x256 .f32) : FVec Ideal S4608 .f32 :=
  Host.reduceAdd (mulf x x) (constant S_ .f32 0x00000000#32) reducesTo_S4608x256_S4608_d1 h_S_

/-- The exponentials of the negated squared distances, zero on the diagonal. -/
def expTerm (x : FVec Ideal S4608x256 .f32) : FVec Ideal S4608x4608 .f32 :=
  mulf (Host.exp (Host.negf (maximumf (subf
      (addf (broadcastInDim S4608x4608 ![0, 1] bcast_S4608x1_S4608x4608_0_1
          (broadcastInDim S4608x1 ![0] bcast_S4608_S4608x1_0 (normTerm x)))
        (broadcastInDim S4608x4608 ![0, 1] bcast_S1x4608_S4608x4608_0_1
          (broadcastInDim S1x4608 ![1] bcast_S4608_S1x4608_1 (normTerm x))))
      (mulf (broadcastInDim S4608x4608 ![] bcast_S_S4608x4608 (constant S_ .f32 0x40000000#32))
        (Host.dotGeneral dot_S4608x256_S256x4608_S4608x4608_1_0_0_1_n_n none x
          (transpose S256x4608 [1, 0] x transposes_S4608x256_S256x4608_1_0))))
      (broadcastInDim S4608x4608 ![] bcast_S_S4608x4608 (constant S_ .f32 0x00000000#32)))))
    (subf (broadcastInDim S4608x4608 ![] bcast_S_S4608x4608 (constant S_ .f32 0x3F800000#32))
      (uitofp .f32 (cmpi .eq (addi (iotaInDim S4608x4608 32 0)
          (broadcastInDim S4608x4608 ![] bcast_S_S4608x4608 (constantI S_ 32 0#32)))
        (iotaInDim S4608x4608 32 1))))

/-- One where two rows have the same label, zero elsewhere. -/
def sameTerm (y : Vec Ideal S4608 .i32) : FVec Ideal S4608x4608 .f32 :=
  uitofp .f32 (cmpi .eq
    (broadcastInDim S4608x4608 ![0, 1] bcast_S4608x1_S4608x4608_0_1 (broadcastInDim S4608x1 ![0] bcast_S4608_S4608x1_0 y))
    (broadcastInDim S4608x4608 ![0, 1] bcast_S1x4608_S4608x4608_0_1 (broadcastInDim S1x4608 ![1] bcast_S4608_S1x4608_1 y)))

/-- The loss from the exponentials and the same-label mask. -/
def lossTerm (e s : FVec Ideal S4608x4608 .f32) : FVec Ideal S1x1 .f32 :=
  shapeCast _ (Host.negf (Host.divf (Host.reduceAdd (Host.log (Host.divf
      (Host.reduceAdd (mulf e s) (constant S_ .f32 0x00000000#32) reducesTo_S4608x4608_S4608_d1 h_S_)
      (Host.reduceAdd e (constant S_ .f32 0x00000000#32) reducesTo_S4608x4608_S4608_d1 h_S_)))
    (constant S_ .f32 0x00000000#32) reducesTo_S4608_S_d0 h_S_) (constant S_ .f32 0x45900000#32))) shapeCasts_S_S1x1

/-- The reference's result is the loss of the reshaped features and the sampled labels. -/
theorem result_eq (m : (ℓ : Loc nD τ sig) → Buf (Elt Ideal) ℓ) (c : Dev nD) :
    res_main_v67 m c = lossTerm
      (expTerm (shapeCast _ (m ((c.tc : Thread nD τ).loc main_arg2)) shapeCasts_S2x256x48x48_S4608x256))
      (sameTerm (labelTerm (m ((c.tc : Thread nD τ).loc main_arg0)))) := rfl

/-- The loss at its one index. -/
theorem lossTerm_at (e s : FVec Ideal S4608x4608 .f32) (i j : Fin 1) :
    lossTerm e s (ix2 i j) = -Ideal.div
      (∑ x : Fin 4608, Ideal.log (Ideal.div (∑ k : Fin 4608, e (ix2 x k) * s (ix2 x k)) (∑ k : Fin 4608, e (ix2 x k))))
      (Ideal.ofBits .f32 0x45900000#32) := by
  pointwise [lossTerm]

/-- The same-label mask at a pair of rows. -/
theorem sameTerm_at (y : Vec Ideal S4608 .i32) (i j : Fin 4608) :
    sameTerm y (ix2 i j) = FloatOps.uitofp (F := Ideal) .f32 (IntOp.cmpi .eq (y (ix1 i)) (y (ix1 j))) := by
  pointwise [sameTerm]

/-- The exponential at a pair of rows. -/
theorem expTerm_at (x : FVec Ideal S4608x256 .f32) (i j : Fin 4608) :
    expTerm x (ix2 i j) = Ideal.exp (-max (∑ k : Fin 256, x (ix2 i k) * x (ix2 i k)
        + ∑ k : Fin 256, x (ix2 j k) * x (ix2 j k)
        - Ideal.ofBits .f32 0x40000000#32 * ∑ k : Fin 256, x (ix2 i k) * x (ix2 j k)) 0)
      * (1 - FloatOps.uitofp (F := Ideal) .f32
          (IntOp.cmpi .eq (IntOp.addi (BitVec.ofNat 32 i.val) 0#32) (BitVec.ofNat 32 j.val))) := by
  pointwise [expTerm, normTerm]

/-- A sampled coordinate is eight times its number. -/
theorem coordTerm_at (i : Fin 48) : coordTerm (ix1 i) = BitVec.ofNat 32 (8 * i.val) := by
  pointwise [coordTerm]
  revert i
  decide +kernel

/-- No sampled coordinate is negative. -/
theorem wrap_coord : ∀ i : Fin 48, Scalar.select (IntOp.cmpi .slt (BitVec.ofNat 32 (8 * i.val)) 0#32)
    (IntOp.addi (BitVec.ofNat 32 (8 * i.val)) 384#32) (BitVec.ofNat 32 (8 * i.val)) = BitVec.ofNat 32 (8 * i.val) := by
  decide +kernel

/-- A row coordinate. -/
theorem rowTerm_at (i j : Fin 48) : rowTerm (ix3 i j (0 : Fin 1)) = BitVec.ofNat 32 (8 * i.val) := by
  pointwise [rowTerm]
  rw [coordTerm_at]
  exact wrap_coord i

/-- A column coordinate. -/
theorem colTerm_at (i j : Fin 48) : colTerm (ix3 i j (0 : Fin 1)) = BitVec.ofNat 32 (8 * j.val) := by
  pointwise [colTerm]
  rw [coordTerm_at]
  exact wrap_coord j

/-- The gather read at an index: image `b`, and the two start coordinates read signed and kept inside the array. -/
theorem gather_at (a : Vec Ideal S2x384x384 .i32) (x : IVec S48x48x2 32) (b : Fin 2) (h w : Fin 48) :
    Host.gather gather_S2x384x384_S48x48x2_S2x48x48_0_12_n_n_12_2_211 a x (ix3 b h w)
      = a (ix3 b (⟨min (x (ix3 h w (0 : Fin 2))).toInt.toNat 383, by omega⟩ : Fin 384)
          (⟨min (x (ix3 h w (1 : Fin 2))).toInt.toNat 383, by omega⟩ : Fin 384)) := by
  unfold Host.gather
  refine congrArg a (funext fun q => Fin.ext ?_)
  match q with
  | ⟨0, _⟩ =>
    show GatherDims.start _ (ix3 b h w) x 0 + GatherDims.batchCoord _ (ix3 b h w) 0 + GatherDims.offCoord _ (ix3 b h w) 0 = b.val
    rw [GatherDims.batchCoord_eq_zero _ _ _ List.not_mem_nil]
    unfold GatherDims.start GatherDims.offCoord
    rw [dif_neg (by decide), dif_pos (by decide)]
    exact (Nat.zero_add _).trans rfl
  | ⟨1, _⟩ =>
    show GatherDims.start _ (ix3 b h w) x 1 + GatherDims.batchCoord _ (ix3 b h w) 1 + GatherDims.offCoord _ (ix3 b h w) 1 = _
    rw [GatherDims.batchCoord_eq_zero _ _ _ List.not_mem_nil, GatherDims.offCoord_eq_zero _ _ _ (by decide)]
    unfold GatherDims.start
    rw [dif_pos (by decide)]
    refine congrArg (fun e : S48x48x2.Idx => min (x e).toInt.toNat 383) (funext fun e => ?_)
    match e with
    | ⟨0, _⟩ => rfl
    | ⟨1, _⟩ => rfl
    | ⟨2, _⟩ => rfl
  | ⟨2, _⟩ =>
    show GatherDims.start _ (ix3 b h w) x 2 + GatherDims.batchCoord _ (ix3 b h w) 2 + GatherDims.offCoord _ (ix3 b h w) 2 = _
    rw [GatherDims.batchCoord_eq_zero _ _ _ List.not_mem_nil, GatherDims.offCoord_eq_zero _ _ _ (by decide)]
    unfold GatherDims.start
    rw [dif_pos (by decide)]
    refine congrArg (fun e : S48x48x2.Idx => min (x e).toInt.toNat 383) (funext fun e => ?_)
    match e with
    | ⟨0, _⟩ => rfl
    | ⟨1, _⟩ => rfl
    | ⟨2, _⟩ => rfl

/-- The pair of start coordinates, first component. -/
theorem start_row (h w : Fin 48) :
    fn_main_v24 (F := Ideal) rowTerm colTerm (ix3 h w (0 : Fin 2)) = BitVec.ofNat 32 (8 * h.val) := by
  refine Eq.trans ?_ (rowTerm_at h w)
  pointwise [fn_main_v24]

/-- The pair of start coordinates, second component. -/
theorem start_col (h w : Fin 48) :
    fn_main_v24 (F := Ideal) rowTerm colTerm (ix3 h w (1 : Fin 2)) = BitVec.ofNat 32 (8 * w.val) := by
  refine Eq.trans ?_ (colTerm_at h w)
  pointwise [fn_main_v24]

/-- A coordinate read signed and kept inside the array is itself. -/
theorem clamp_coord : ∀ i : Fin 48, min (BitVec.ofNat 32 (8 * i.val)).toInt.toNat 383 = 8 * i.val := by
  decide +kernel

/-- A sampled label, read off the label array. -/
theorem labelTerm_at (a : Vec Ideal S2x384x384 .i32) (i : Fin 4608) :
    labelTerm a (ix1 i) = a (ix3 (⟨i.val / 2304, by omega⟩ : Fin 2) (⟨8 * (i.val / 48 % 48), by omega⟩ : Fin 384)
      (⟨8 * (i.val % 48), by omega⟩ : Fin 384)) := by
  pointwise [labelTerm]
  rw [gather_at]
  refine congrArg a ?_
  simp only [start_row, start_col]
  refine congrArg₂ (fun (p q : Fin 384) => ix3 (⟨i.val / 2304, by omega⟩ : Fin 2) p q) (Fin.ext ?_) (Fin.ext ?_)
  · exact clamp_coord ⟨i.val / 48 % 48, by omega⟩
  · exact clamp_coord ⟨i.val % 48, by omega⟩

end Cert.ReferenceIdeal.Val

end
-- ==== Proof.Equation.lean ====
/- The two programs' arithmetic compared on extended reals: the exponentials, the constants, the one-hot sums and the final
   scaling. Nothing here mentions a buffer. -/
module

public import proofs.«01_k».proof.Proof.Strip

@[expose] public section

noncomputable section

open Idealize.ShloMosaic

namespace Cert.KernelIdeal.Equation

open Cert.KernelIdeal.Strip

/-- A finite sum of real numbers is the same sum of extended reals. -/
theorem coe_total {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Sums of squares and products give the squared distance. -/
theorem dist_eq {n : ℕ} (a b : Fin n → ℝ) :
    ∑ k, a k * a k + ∑ k, b k * b k - 2 * ∑ k, a k * b k = ∑ k, (a k - b k) ^ 2 := by
  rw [Finset.mul_sum, ← Finset.sum_add_distrib, ← Finset.sum_sub_distrib]
  exact Finset.sum_congr rfl fun k _ => by ring

/-- The kernel value of two rows of real numbers is the exponential of the negated squared distance. -/
theorem entry_eq (a b : Fin 256 → ℝ) :
    entry (fun k => (a k : EReal)) (fun k => (b k : EReal)) = ((Real.exp (-∑ k, (a k - b k) ^ 2) : ℝ) : EReal) := by
  have h1 : ∑ k, (a k : EReal) * ((2 * (Real.log 2)⁻¹ : ℝ) : EReal) * (b k : EReal)
      = ((∑ k, a k * (2 * (Real.log 2)⁻¹) * b k : ℝ) : EReal) := by
    rw [coe_total]; exact Finset.sum_congr rfl fun k _ => by rw [EReal.coe_mul (a k * _), EReal.coe_mul (a k)]
  have h2 : ∑ k, (a k : EReal) * (a k : EReal) * (((Real.log 2)⁻¹ : ℝ) : EReal)
      = ((∑ k, a k * a k * (Real.log 2)⁻¹ : ℝ) : EReal) := by
    rw [coe_total]; exact Finset.sum_congr rfl fun k _ => by rw [EReal.coe_mul, EReal.coe_mul]
  have h3 : ∑ k, (((Real.log 2)⁻¹ : ℝ) : EReal) * ((b k : EReal) * (b k : EReal))
      = ((∑ k, (Real.log 2)⁻¹ * (b k * b k) : ℝ) : EReal) := by
    rw [coe_total]; exact Finset.sum_congr rfl fun k _ => by rw [EReal.coe_mul, EReal.coe_mul]
  unfold entry
  rw [h1, h2, h3, ← EReal.coe_sub, ← EReal.coe_sub]
  refine (Ideal.exp2_coe _).trans (congrArg _ ?_)
  have hl : Real.log 2 ≠ 0 := (Real.log_pos (by norm_num)).ne'
  refine (Real.rpow_def_of_pos (by norm_num) _).trans (congrArg Real.exp ?_)
  rw [← dist_eq]
  have e1 : ∑ k, a k * (2 * (Real.log 2)⁻¹) * b k = 2 * (Real.log 2)⁻¹ * ∑ k, a k * b k := by
    rw [Finset.mul_sum]; exact Finset.sum_congr rfl fun k _ => by ring
  rw [e1, ← Finset.sum_mul, ← Finset.mul_sum]
  field_simp
  ring

/-- The bit pattern of 2 in 32-bit floats. -/
theorem bits_two : Ideal.ofBits .f32 0x40000000#32 = ((2 : ℝ) : EReal) := by
  simp [Ideal.ofBits, Ideal.ieee, -EReal.coe_mul]
  norm_num

/-- The bit pattern of 4608 in 32-bit floats. -/
theorem bits_rows : Ideal.ofBits .f32 0x45900000#32 = ((4608 : ℝ) : EReal) := by
  simp [Ideal.ofBits, Ideal.ieee, -EReal.coe_mul]
  norm_num

/-- The reference's exponent of two rows of real numbers gives the same exponential. -/
theorem exp_eq (a b : Fin 256 → ℝ) :
    Ideal.exp (-max (∑ k, (a k : EReal) * (a k : EReal) + ∑ k, (b k : EReal) * (b k : EReal)
        - Ideal.ofBits .f32 0x40000000#32 * ∑ k, (a k : EReal) * (b k : EReal)) 0)
      = ((Real.exp (-∑ k, (a k - b k) ^ 2) : ℝ) : EReal) := by
  have h : ∀ u v : Fin 256 → ℝ, ∑ k, (u k : EReal) * (v k : EReal) = ((∑ k, u k * v k : ℝ) : EReal) := fun u v => by
    rw [coe_total]; exact Finset.sum_congr rfl fun k _ => by rw [EReal.coe_mul]
  rw [h, h, h, bits_two, ← EReal.coe_mul, ← EReal.coe_add, ← EReal.coe_sub, dist_eq, max_eq_left, ← EReal.coe_neg]
  · rfl
  · exact EReal.coe_nonneg.2 (Finset.sum_nonneg fun k _ => sq_nonneg _)

/-- A comparison's bit as a number: one where the words are equal, zero elsewhere. -/
theorem bit_eq (φ : FTy) (u v : BitVec 32) :
    FloatOps.uitofp (F := Ideal) φ (IntOp.cmpi .eq u v) = if u = v then (1 : EReal) else 0 := by
  show (((IntOp.cmpi .eq u v).toNat : ℝ) : EReal) = _
  by_cases h : u = v
  · rw [if_pos h, h]; simp [IntOp.cmpi]
  · rw [if_neg h]; simp [IntOp.cmpi, h]

/-- Two row numbers have the same 32-bit word only if they are equal. -/
theorem word_inj (i j : Fin 4608) : BitVec.ofNat 32 i.val = BitVec.ofNat 32 j.val ↔ i = j := by
  constructor
  · intro h
    have h' := congrArg BitVec.toNat h
    simp only [BitVec.toNat_ofNat] at h'
    exact Fin.ext (by omega)
  · rintro rfl; rfl

/-- Summing over all classes and rows counts each row once, when every label is the number of a class. -/
theorem classes_total {n : ℕ} (e : Fin n → EReal) (y : Fin n → BitVec 32) (hy : ∀ j, (y j).toNat < 128) (φ : FTy) :
    ∑ a : Fin 128, ∑ j, e j * FloatOps.uitofp (F := Ideal) φ (IntOp.cmpi .eq (y j) (BitVec.ofNat 32 a.val)) = ∑ j, e j := by
  rw [Finset.sum_comm]
  refine Finset.sum_congr rfl fun j _ => ?_
  rw [Finset.sum_eq_single (⟨(y j).toNat, hy j⟩ : Fin 128)]
  · rw [bit_eq, if_pos, mul_one]
    exact BitVec.eq_of_toNat_eq (by simp)
  · intro a _ ha
    rw [bit_eq, if_neg, mul_zero]
    intro h
    refine ha (Fin.ext ?_)
    have h' := congrArg BitVec.toNat h
    simp only [BitVec.toNat_ofNat] at h'
    have := a.isLt
    show a.val = (y j).toNat
    omega
  · exact fun h => absurd (Finset.mem_univ _) h

/-- Multiplying by -1/4608 is dividing by 4608 and negating. -/
theorem scale_eq (s : EReal) :
    s * ((-1 / 4608 : ℝ) : EReal) = -Ideal.div s (Ideal.ofBits .f32 0x45900000#32) := by
  rw [bits_rows, Ideal.div_coe (by norm_num), ← mul_neg, ← EReal.coe_neg]
  exact congrArg (fun r : ℝ => s * (r : EReal)) (by norm_num)

end Cert.KernelIdeal.Equation

end
-- ==== Proof.Range.lean ====
/- What the precondition says: every label is a number from 0 to 18 and every feature is a real number. -/
module

public import proofs.«01_k».proof.Pre_in_range
public import Idealize.ShloMosaic.PureOps.Ideal
public import Idealize.ShloMosaic.Lib.ReduceAll
public import Idealize.ShloMosaic.Lib.Pointwise

@[expose] public section

set_option maxRecDepth 16384

noncomputable section

open Idealize.ShloMosaic

namespace Cert.Pre_in_range

/-- The side conditions of the precondition's operations. -/
theorem sides : Facts where
  bcast_S_S2x384x384 := by decide
  reducesTo_S2x384x384_S_d0_1_2 := by decide
  h_S_ := by decide
  bcast_S_S2x256x48x48 := by decide
  reducesTo_S2x256x48x48_S_d0_1_2_3 := by decide

/-- Where the conjunction of two bits is one, both are. -/
theorem both : ∀ u v : BitVec 1, IntOp.andi u v = 1#1 → u = 1#1 ∧ v = 1#1 := by decide

/-- A label that passes both comparisons is below 19. -/
theorem label_lt (b : BitVec 32) (h : IntOp.andi (IntOp.cmpi .sge b 0#32) (IntOp.cmpi .slt b 19#32) = 1#1) : b.toNat < 19 := by
  obtain ⟨h0, h1⟩ := both _ _ h
  have hb := b.isLt
  simp only [IntOp.cmpi, BitVec.sle, BitVec.slt, BitVec.toInt_eq_toNat_cond] at h0 h1
  have t : ∀ p : Bool, BitVec.ofBool p = 1#1 → p = true := by decide
  have h0' := of_decide_eq_true (t _ h0)
  have h1' := of_decide_eq_true (t _ h1)
  simp only [BitVec.toNat_ofNat] at h0' h1'
  split at h0' <;> omega

/-- A number whose absolute value is below infinity is real. -/
theorem feat_real (x : EReal) (h : FloatOps.cmpf (F := Ideal) (φ := .f32) .olt (FloatOps.absf (F := Ideal) (φ := .f32) x) (Ideal.ofBits .f32 0x7F800000#32) = 1#1) :
    ∃ r : ℝ, x = (r : EReal) := by
  have hi : Ideal.ofBits .f32 0x7F800000#32 = ⊤ := by simp [Ideal.ofBits, Ideal.ieee]
  rw [hi] at h
  induction x with
  | coe r => exact ⟨r, rfl⟩
  | bot => simp [FloatOps.cmpf, FloatOps.absf, Ideal.cmp] at h
  | top => simp [FloatOps.cmpf, FloatOps.absf, Ideal.cmp] at h

variable [Facts]

/-- The precondition read: the labels' range and the features' finiteness. -/
theorem read (a : IVec S2x384x384 32) (p : FVec Ideal S2x19x384x384 .f32) (f : FVec Ideal S2x256x48x48 .f32) (u v : IVec S_ 32)
    (h : fn (F := Ideal) a p f u v = fun _ => 1#1) :
    (∀ i, (a i).toNat < 19) ∧ ∀ i, ∃ r : ℝ, f i = (r : EReal) := by
  have h' := congrFun h (fun k => k.elim0)
  obtain ⟨h1, h2⟩ := both _ _ h'
  refine ⟨fun i => label_lt _ (Host.reduce_andi_all _ _ _ _ _ h1 i), fun i => feat_real _ ?_⟩
  have := Host.reduce_andi_all _ _ _ _ _ h2 i
  exact this

end Cert.Pre_in_range

end
-- ==== Proof.Final.lean ====
/- The kernel's result is the reference's. -/
module

public import proofs.«01_k».proof.Proof.Reads
public import proofs.«01_k».proof.Proof.RefValue
public import proofs.«01_k».proof.Proof.Equation
public import proofs.«01_k».proof.Proof.Range

@[expose] public section

set_option maxRecDepth 16384

noncomputable section

open Idealize.ShloMosaic Idealize.ShloMosaic.TcCoe Idealize.SL.Sem

namespace Cert.KernelIdeal.Final

open Cert.KernelIdeal Cert.KernelIdeal.Gen Cert.KernelIdeal.Strip Cert.KernelIdeal.Fold Cert.KernelIdeal.Reads
  Cert.KernelIdeal.Equation Cert.ReferenceIdeal.Val

/-- The accumulator column of a label from 0 to 18 is the label. -/
theorem column_word (b : BitVec 32) (h : b.toNat < 19) : BitVec.ofNat 32 (column b).val = b := by
  have all : ∀ n : Fin 19, BitVec.ofNat 32 (column (BitVec.ofNat 32 n.val)).val = BitVec.ofNat 32 n.val := by
    decide +kernel
  have e : BitVec.ofNat 32 b.toNat = b := by simp
  have := all ⟨b.toNat, h⟩
  rwa [e] at this

/-- The kernel value of two rows is the reference's exponential, when every feature is real. -/
theorem kern_eq (x : FVec Ideal S4608x256 .f32) (hx : ∀ i, ∃ r : ℝ, x i = (r : EReal)) (i j : Fin 4608) :
    kern x i j = expTerm x (ix2 i j) := by
  choose f hf using hx
  rw [expTerm_at]
  simp only [hf]
  rw [exp_eq (fun k => f (ix2 i k)) (fun k => f (ix2 j k)), show IntOp.addi (BitVec.ofNat 32 i.val) 0#32 = BitVec.ofNat 32 i.val from
    BitVec.add_zero _, bit_eq]
  unfold kern
  simp only [hf]
  by_cases h : j = i
  · rw [if_pos h, if_pos ((word_inj i j).2 h.symm), ← EReal.coe_one, ← EReal.coe_sub, sub_self, EReal.coe_zero, mul_zero]
  · rw [if_neg h, if_neg fun e => h ((word_inj i j).1 e).symm, ← EReal.coe_one, ← EReal.coe_zero, ← EReal.coe_sub, sub_zero,
      EReal.coe_one, mul_one]
    exact entry_eq _ _

/-- One row's contribution is the reference's, when its exponentials are and the labels are in range. -/
theorem row_eq (x : FVec Ideal S4608x256 .f32) (hx : ∀ i, ∃ r : ℝ, x i = (r : EReal)) (y : IVec S4608 32)
    (hy : ∀ i, (y i).toNat < 19) (i : Fin 4608) :
    Reads.rowTerm x y i = Ideal.log (Ideal.div (∑ k : Fin 4608, expTerm x (ix2 i k) * sameTerm y (ix2 i k))
      (∑ k : Fin 4608, expTerm x (ix2 i k))) := by
  unfold Reads.rowTerm
  rw [classes_total (fun j => kern x i j) (fun j => y (ix1 j)) (fun j => (hy _).trans (by norm_num))]
  refine congrArg Ideal.log (congrArg₂ Ideal.div ?_ ?_)
  · refine Finset.sum_congr rfl fun j _ => congrArg₂ (· * ·) (kern_eq x hx i j) ?_
    rw [column_word _ (hy _), sameTerm_at, bit_eq, bit_eq]
    exact if_congr eq_comm rfl rfl
  · exact Finset.sum_congr rfl fun j _ => kern_eq x hx i j

/-- The reference's sampled labels are the kernel's. -/
theorem labels_eq (a : IVec S2x384x384 32) : labelTerm a = labelsOf a := by
  funext i
  obtain ⟨p, rfl⟩ : ∃ p : Fin 4608, i = ix1 p := ⟨i 0, funext fun q => by match q with | ⟨0, _⟩ => rfl⟩
  rw [labelTerm_at, labelsOf_at]

variable (m : (ℓ : Loc nD τ sig) → Buf (Elt Ideal) ℓ)

/-- The result array after the run is the reference's loss of the same arguments. -/
theorem final (c : Dev nD)
    (ha : ∀ i, ((m ((c.tc : Thread nD τ).loc main_arg0) : IVec S2x384x384 32) i).toNat < 19)
    (hf : ∀ i, ∃ r : ℝ, (m ((c.tc : Thread nD τ).loc main_arg2) : FVec Ideal S2x256x48x48 .f32) i = (r : EReal)) :
    (dats m 0 c).arrAt 2 cfg0.N = lossTerm (expTerm (featsOf (m ((c.tc : Thread nD τ).loc main_arg2))))
      (sameTerm (labelTerm (m ((c.tc : Thread nD τ).loc main_arg0)))) := by
  funext i
  obtain ⟨p, q, rfl⟩ : ∃ p q : Fin 1, i = ix2 p q :=
    ⟨i 0, i 1, funext fun q => by match q with | ⟨0, _⟩ => rfl | ⟨1, _⟩ => rfl⟩
  refine (Fold.result m c _).trans ?_
  rw [Reads.total, lossTerm_at, scale_eq, labels_eq]
  refine congrArg (fun s => -Ideal.div s (Ideal.ofBits .f32 0x45900000#32)) ?_
  exact Finset.sum_congr rfl fun r _ => row_eq _ (fun i => hf _) _ (fun i => ha _) r

end Cert.KernelIdeal.Final

end
-- ==== Proof.lean ====
/- The certificate: the three frames, the meaning of the named constants, and the equality of the kernel's and the
   reference's loss. The mathematics is in the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Final
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The side conditions the programs and the precondition state. -/
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_in_range.Facts := Cert.Pre_in_range.sides

/-- The kernel runs and leaves its arguments unchanged. -/
theorem kernel_frame : Cert.quiescent_Kernel := fun m g _ => Cert.Kernel.Gen.frame m g

/-- The idealized kernel runs and leaves its arguments unchanged. -/
theorem ideal_frame : Cert.quiescent_KernelIdeal := fun m g _ => Cert.KernelIdeal.Gen.frame m g

/-- The same of arguments in range. -/
theorem ideal_frame_in_range : Cert.quiescent_KernelIdeal_pre_in_range := fun m g _ => Cert.KernelIdeal.Gen.frame m g

/-- The reference runs and leaves its arguments unchanged; it declares no semaphore, so every counter is at zero. -/
theorem reference_frame : Cert.quiescent_ReferenceIdeal := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

/-- The same of arguments in range. -/
theorem reference_frame_in_range : Cert.quiescent_ReferenceIdeal_pre_in_range := fun m g _ => reference_frame m g trivial

/-- Each named constant has the value its name states. -/
theorem constants : Cert.preserves_Kernel_KernelIdeal :=
  ⟨IdealRules.named_const.statement Cert.KernelIdeal.κ "log2e" .bf16 0x3FB9#16 _ rfl,
    IdealRules.named_const.statement Cert.KernelIdeal.κ "two_log2e" .bf16 0x4039#16 _ rfl,
    IdealRules.named_const.statement Cert.KernelIdeal.κ "neg_inv_n" .f32 0xB9638E39#32 _ rfl⟩

/-- The idealized kernel and the idealized reference end with the same loss. -/
theorem equal_loss : Cert.algebraic_KernelIdeal_ReferenceIdeal_pre_in_range := by
  pair_intro
  · run_from Cert.KernelIdeal.Gen.run_main m g
  · run_from Cert.ReferenceIdeal.Value.run m' g'
    have hp := Cert.Pre_in_range.read _ _ _ _ _ (hpre c)
    refine Eq.trans ?_ (Cert.KernelIdeal.Final.final m c hp.1 hp.2).symm
    rw [Cert.ReferenceIdeal.Val.result_eq, (hagree c).1, (hagree c).2.2.1]
    rfl

/-- Everything the certificate claims. -/
theorem claim : Cert.Claim :=
  ⟨Cert.Kernel.Gen.facts, Cert.KernelIdeal.Gen.facts, Cert.ReferenceIdeal.Gen.facts, Cert.Pre_in_range.sides,
    kernel_frame, ideal_frame, ideal_frame_in_range, reference_frame, reference_frame_in_range, constants, equal_loss⟩

end Cert.Proof

end
